-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S6x512x512 : Shape := ⟨3, ![6, 512, 512]⟩
abbrev S2x512x512 : Shape := ⟨3, ![2, 512, 512]⟩
abbrev S6 : Shape := ⟨1, ![6]⟩
abbrev S512x1024 : Shape := ⟨2, ![512, 1024]⟩
abbrev S512x2048 : Shape := ⟨2, ![512, 2048]⟩
abbrev S_ : Shape := ⟨0, ![]⟩
abbrev S512x512 : Shape := ⟨2, ![512, 512]⟩
abbrev S1x512x512 : Shape := ⟨3, ![1, 512, 512]⟩
abbrev S1 : Shape := ⟨1, ![1]⟩

abbrev nBuf : Space → Nat
  | .hbm => 3
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S2048x1024, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .bf16⟩
  | .local _ .vmem, ⟨4, _⟩ => ⟨S6x512x512, .bf16⟩
  | .local _ .vmem, ⟨5, _⟩ => ⟨S6x512x512, .bf16⟩
  | .local _ .vmem, ⟨6, _⟩ => ⟨S2x512x512, .bf16⟩
  | .local _ .vmem, ⟨7, _⟩ => ⟨S6x512x512, .bf16⟩
  | .local _ .vmem, ⟨8, _⟩ => ⟨S6x512x512, .bf16⟩
  | .local _ .vmem, ⟨9, _⟩ => ⟨S6x512x512, .bf16⟩
  | .local _ .vmem, ⟨10, _⟩ => ⟨S2x512x512, .bf16⟩
  | .local _ .vmem, ⟨11, _⟩ => ⟨S6x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v13 : BitVec 32 := Scalar.addi v2 c8_i32
  let c4_i32_8 : BitVec 32 := 4#32
  let v14 : BitVec 32 := Scalar.remsi v13 c4_i32_8
  let c512_i32 : BitVec 32 := 512#32
  let v15 : BitVec 32 := Scalar.muli v14 c512_i32
  let v16 : Index := Scalar.indexCast v15
  let c0_9 : Index := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_12 : BitVec 32 := 8#32
  let v21 : BitVec 32 := Scalar.addi v2 c8_i32_12
  let c4_i32_13 : BitVec 32 := 4#32
  let v22 : BitVec 32 := Scalar.remsi v21 c4_i32_13
  let c512_i32_14 : BitVec 32 := 512#32
  let v23 : BitVec 32 := Scalar.muli v22 c512_i32_14
  let v24 : Index := Scalar.indexCast v23
  let c0_15 : Index := 0#32
  ![v24.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_17 : BitVec 32 := 1#32
  let v27 : BitVec 32 := Scalar.muli v5 c1_i32_17
  let v28 : BitVec 32 := Scalar.addi c0_i32 v27
  v28.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v29 : BitVec 32 := Scalar.muli v7 c1_i32_19
  let v30 : BitVec 32 := Scalar.addi c0_i32_20 v29
  v30.toNat
def k0_off3 (d0 : Dev nD) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : BitVec 32 := Scalar.subi v2 c0_i32_21
  let c8_i32_22 : BitVec 32 := 8#32
  let v32 : BitVec 32 := Scalar.addi v31 c8_i32_22
  let c4_i32_23 : BitVec 32 := 4#32
  let v33 : BitVec 32 := Scalar.remsi v32 c4_i32_23
  let c512_i32_24 : BitVec 32 := 512#32
  let v34 : BitVec 32 := Scalar.muli v33 c512_i32_24
  let v35 : Index := Scalar.indexCast v34
  let c1024 : Index := 1024#32
  ![v35.toNat, 1024]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_32 : BitVec 32 := 1#32
  let v42 : BitVec 32 := Scalar.muli v7 c1_i32_32
  let v43 : BitVec 32 := Scalar.addi c0_i32_33 v42
  v43.toNat
def k0_off4 (d0 : Dev nD) (c0_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v52 : BitVec 32 := Scalar.subi v2 c0_i32_38
  let c8_i32_39 : BitVec 32 := 8#32
  let v53 : BitVec 32 := Scalar.addi v52 c8_i32_39
  let c4_i32_40 : BitVec 32 := 4#32
  let v54 : BitVec 32 := Scalar.remsi v53 c4_i32_40
  let c512_i32_41 : BitVec 32 := 512#32
  let v55 : BitVec 32 := Scalar.muli v54 c512_i32_41
  let v56 : Index := Scalar.indexCast v55
  let c1536 : Index := 1536#32
  ![v56.toNat, 1536]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_48 : BitVec 32 := 1#32
  let v63 : BitVec 32 := Scalar.muli v7 c1_i32_48
  let v64 : BitVec 32 := Scalar.addi c0_i32_49 v63
  v64.toNat
def k0_off5 (d0 : Dev nD) (c0_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : BitVec 32 := Scalar.subi v2 c0_i32_54
  let c8_i32_55 : BitVec 32 := 8#32
  let v74 : BitVec 32 := Scalar.addi v73 c8_i32_55
  let c4_i32_56 : BitVec 32 := 4#32
  let v75 : BitVec 32 := Scalar.remsi v74 c4_i32_56
  let c512_i32_57 : BitVec 32 := 512#32
  let v76 : BitVec 32 := Scalar.muli v75 c512_i32_57
  let v77 : Index := Scalar.indexCast v76
  let c0_58 : Index := 0#32
  ![v77.toNat, 0]
def k0_off5_at (r : Fin 4) : BitVec 32 :=
  if r.val < 2 then
    if r.val < 1 then
      0#32
    else
      4294967295#32
  else
    if r.val < 3 then
      4294967294#32
    else
      4294967293#32
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_66 : BitVec 32 := 1#32
  let v84 : BitVec 32 := Scalar.muli v5 c1_i32_66
  let v85 : BitVec 32 := Scalar.addi c0_i32_67 v84
  v85.toNat
def k0_off6 (d0 : Dev nD) (c0_i32_72 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v94 : BitVec 32 := Scalar.subi v2 c0_i32_72
  let c8_i32_73 : BitVec 32 := 8#32
  let v95 : BitVec 32 := Scalar.addi v94 c8_i32_73
  let c4_i32_74 : BitVec 32 := 4#32
  let v96 : BitVec 32 := Scalar.remsi v95 c4_i32_74
  let c512_i32_75 : BitVec 32 := 512#32
  let v97 : BitVec 32 := Scalar.muli v96 c512_i32_75
  let v98 : Index := Scalar.indexCast v97
  let c512 : Index := 512#32
  ![v98.toNat, 512]
def k0_off6_at (r : Fin 4) : BitVec 32 :=
  if r.val < 2 then
    if r.val < 1 then
      0#32
    else
      4294967295#32
  else
    if r.val < 3 then
      4294967294#32
    else
      4294967293#32
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_83 : BitVec 32 := 1#32
  let v105 : BitVec 32 := Scalar.muli v5 c1_i32_83
  let v106 : BitVec 32 := Scalar.addi c0_i32_84 v105
  v106.toNat
def k0_off7 (d0 : Dev nD) (c1_i32_89 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v115 : BitVec 32 := Scalar.addi v2 c1_i32_89
  let c8_i32_90 : BitVec 32 := 8#32
  let v116 : BitVec 32 := Scalar.addi v115 c8_i32_90
  let c4_i32_91 : BitVec 32 := 4#32
  let v117 : BitVec 32 := Scalar.remsi v116 c4_i32_91
  let c512_i32_92 : BitVec 32 := 512#32
  let v118 : BitVec 32 := Scalar.muli v117 c512_i32_92
  let v119 : Index := Scalar.indexCast v118
  let c0_93 : Index := 0#32
  ![v119.toNat, 0]
def k0_off8 (d0 : Dev nD) (c1_i32_89 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v115 : BitVec 32 := Scalar.addi v2 c1_i32_89
  let c8_i32_97 : BitVec 32 := 8#32
  let v124 : BitVec 32 := Scalar.addi v115 c8_i32_97
  let c4_i32_98 : BitVec 32 := 4#32
  let v125 : BitVec 32 := Scalar.remsi v124 c4_i32_98
  let c512_i32_99 : BitVec 32 := 512#32
  let v126 : BitVec 32 := Scalar.muli v125 c512_i32_99
  let v127 : Index := Scalar.indexCast v126
  let c0_100 : Index := 0#32
  ![v127.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_101 : BitVec 32 := 1#32
  let v129 : BitVec 32 := Scalar.subi v2 c1_i32_101
  let c8_i32_102 : BitVec 32 := 8#32
  let v130 : BitVec 32 := Scalar.addi v129 c8_i32_102
  let c4_i32_103 : BitVec 32 := 4#32
  let v131 : BitVec 32 := Scalar.remsi v130 c4_i32_103
  let c512_i32_104 : BitVec 32 := 512#32
  let v132 : BitVec 32 := Scalar.muli v131 c512_i32_104
  let v133 : Index := Scalar.indexCast v132
  let c0_105 : Index := 0#32
  ![v133.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_101 : BitVec 32 := 1#32
  let v129 : BitVec 32 := Scalar.subi v2 c1_i32_101
  let c8_i32_109 : BitVec 32 := 8#32
  let v138 : BitVec 32 := Scalar.addi v129 c8_i32_109
  let c4_i32_110 : BitVec 32 := 4#32
  let v139 : BitVec 32 := Scalar.remsi v138 c4_i32_110
  let c512_i32_111 : BitVec 32 := 512#32
  let v140 : BitVec 32 := Scalar.muli v139 c512_i32_111
  let v141 : Index := Scalar.indexCast v140
  let c0_112 : Index := 0#32
  ![v141.toNat, 0]
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_143 : BitVec 32 := 1#32
  let v175 : BitVec 32 := Scalar.muli v7 c1_i32_143
  let v176 : BitVec 32 := Scalar.addi c0_i32_144 v175
  v176.toNat
def k0_dev8 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_179 : BitVec 32 := 1#32
  let v217 : BitVec 32 := Scalar.muli v5 c1_i32_179
  let v218 : BitVec 32 := Scalar.addi c0_i32_180 v217
  v218.toNat
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_214 : BitVec 32 := 1#32
  let v259 : BitVec 32 := Scalar.muli v7 c1_i32_214
  let v260 : BitVec 32 := Scalar.addi c0_i32_215 v259
  v260.toNat
def k0_dev10 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_251 : BitVec 32 := 1#32
  let v301 : BitVec 32 := Scalar.muli v5 c1_i32_251
  let v302 : BitVec 32 := Scalar.addi c0_i32_252 v301
  v302.toNat
def k0_dev11 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_299 : BitVec 32 := 1#32
  let v357 : BitVec 32 := Scalar.muli v7 c1_i32_299
  let v358 : BitVec 32 := Scalar.addi c0_i32_300 v357
  v358.toNat
def k0_dev12 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_335 : BitVec 32 := 1#32
  let v399 : BitVec 32 := Scalar.muli v5 c1_i32_335
  let v400 : BitVec 32 := Scalar.addi c0_i32_336 v399
  v400.toNat
def k0_dev13 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_370 : BitVec 32 := 1#32
  let v441 : BitVec 32 := Scalar.muli v7 c1_i32_370
  let v442 : BitVec 32 := Scalar.addi c0_i32_371 v441
  v442.toNat
def k0_dev14 (d0 : Dev nD) : Nat :=
  let c0_i32_408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_407 : BitVec 32 := 1#32
  let v483 : BitVec 32 := Scalar.muli v5 c1_i32_407
  let v484 : BitVec 32 := Scalar.addi c0_i32_408 v483
  v484.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_432 : BitVec 32 := 1#32
  let v514 : BitVec 32 := Scalar.addi v2 c1_i32_432
  let c8_i32_433 : BitVec 32 := 8#32
  let v515 : BitVec 32 := Scalar.addi v514 c8_i32_433
  let c4_i32_434 : BitVec 32 := 4#32
  let v516 : BitVec 32 := Scalar.remsi v515 c4_i32_434
  let c512_i32_435 : BitVec 32 := 512#32
  let v517 : BitVec 32 := Scalar.muli v516 c512_i32_435
  let v518 : Index := Scalar.indexCast v517
  let c1024_436 : Index := 1024#32
  ![v518.toNat, 1024]
def k0_dev15 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_444 : BitVec 32 := 1#32
  let v525 : BitVec 32 := Scalar.muli v7 c1_i32_444
  let v526 : BitVec 32 := Scalar.addi c0_i32_445 v525
  v526.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_468 : BitVec 32 := 4294967295#32
  let v556 : BitVec 32 := Scalar.addi v2 c_m1_i32_468
  let c8_i32_469 : BitVec 32 := 8#32
  let v557 : BitVec 32 := Scalar.addi v556 c8_i32_469
  let c4_i32_470 : BitVec 32 := 4#32
  let v558 : BitVec 32 := Scalar.remsi v557 c4_i32_470
  let c512_i32_471 : BitVec 32 := 512#32
  let v559 : BitVec 32 := Scalar.muli v558 c512_i32_471
  let v560 : Index := Scalar.indexCast v559
  let c0_472 : Index := 0#32
  ![v560.toNat, 0]
def k0_dev16 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_480 : BitVec 32 := 1#32
  let v567 : BitVec 32 := Scalar.muli v5 c1_i32_480
  let v568 : BitVec 32 := Scalar.addi c0_i32_481 v567
  v568.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_505 : BitVec 32 := 1#32
  let v598 : BitVec 32 := Scalar.addi v2 c1_i32_505
  let c8_i32_506 : BitVec 32 := 8#32
  let v599 : BitVec 32 := Scalar.addi v598 c8_i32_506
  let c4_i32_507 : BitVec 32 := 4#32
  let v600 : BitVec 32 := Scalar.remsi v599 c4_i32_507
  let c512_i32_508 : BitVec 32 := 512#32
  let v601 : BitVec 32 := Scalar.muli v600 c512_i32_508
  let v602 : Index := Scalar.indexCast v601
  let c1536_509 : Index := 1536#32
  ![v602.toNat, 1536]
def k0_dev17 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_517 : BitVec 32 := 1#32
  let v609 : BitVec 32 := Scalar.muli v7 c1_i32_517
  let v610 : BitVec 32 := Scalar.addi c0_i32_518 v609
  v610.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_542 : BitVec 32 := 4294967295#32
  let v640 : BitVec 32 := Scalar.addi v2 c_m1_i32_542
  let c8_i32_543 : BitVec 32 := 8#32
  let v641 : BitVec 32 := Scalar.addi v640 c8_i32_543
  let c4_i32_544 : BitVec 32 := 4#32
  let v642 : BitVec 32 := Scalar.remsi v641 c4_i32_544
  let c512_i32_545 : BitVec 32 := 512#32
  let v643 : BitVec 32 := Scalar.muli v642 c512_i32_545
  let v644 : Index := Scalar.indexCast v643
  let c512_546 : Index := 512#32
  ![v644.toNat, 512]
def k0_dev18 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_554 : BitVec 32 := 1#32
  let v651 : BitVec 32 := Scalar.muli v5 c1_i32_554
  let v652 : BitVec 32 := Scalar.addi c0_i32_555 v651
  v652.toNat
def k0_dev19 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_574 : BitVec 32 := 1#32
  let v669 : BitVec 32 := Scalar.muli v7 c1_i32_574
  let v670 : BitVec 32 := Scalar.addi c0_i32_575 v669
  v670.toNat
def k0_dev20 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_602 : BitVec 32 := 1#32
  let v696 : BitVec 32 := Scalar.muli v5 c1_i32_602
  let v697 : BitVec 32 := Scalar.addi c0_i32_603 v696
  v697.toNat
def k0_dev21 (d0 : Dev nD) : Nat :=
  let c0_i32_631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_630 : BitVec 32 := 1#32
  let v723 : BitVec 32 := Scalar.muli v7 c1_i32_630
  let v724 : BitVec 32 := Scalar.addi c0_i32_631 v723
  v724.toNat
def k0_dev22 (d0 : Dev nD) : Nat :=
  let c0_i32_659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_658 : BitVec 32 := 1#32
  let v750 : BitVec 32 := Scalar.muli v5 c1_i32_658
  let v751 : BitVec 32 := Scalar.addi c0_i32_659 v750
  v751.toNat
def k0_dev23 (d0 : Dev nD) : Nat :=
  let c0_i32_687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_686 : BitVec 32 := 1#32
  let v777 : BitVec 32 := Scalar.muli v7 c1_i32_686
  let v778 : BitVec 32 := Scalar.addi c0_i32_687 v777
  v778.toNat
def k0_dev24 (d0 : Dev nD) : Nat :=
  let c0_i32_715 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_714 : BitVec 32 := 1#32
  let v804 : BitVec 32 := Scalar.muli v5 c1_i32_714
  let v805 : BitVec 32 := Scalar.addi c0_i32_715 v804
  v805.toNat
def k0_dev25 (d0 : Dev nD) : Nat :=
  let c0_i32_743 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_742 : BitVec 32 := 1#32
  let v831 : BitVec 32 := Scalar.muli v7 c1_i32_742
  let v832 : BitVec 32 := Scalar.addi c0_i32_743 v831
  v832.toNat
def k0_dev26 (d0 : Dev nD) : Nat :=
  let c0_i32_771 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_770 : BitVec 32 := 1#32
  let v858 : BitVec 32 := Scalar.muli v5 c1_i32_770
  let v859 : BitVec 32 := Scalar.addi c0_i32_771 v858
  v859.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KI.Prog.lean ====
/-
# The kernel's body as a sequence of named steps

The printed body is 2305 statements long, and its memory operations fall into a few shapes, repeated for the two
ring directions, the two sub-tiles of each direction and the steps of the ring: a chunk product, a tile staged into
a send slot, a transfer to a neighbour, a wait on a DMA semaphore, a landed tile added to an output tile, a landed
tile written over an output tile. Each shape is a program here, over the printed offsets, and `body_eq` says that
the printed body is the sequence of them.

A message is named `(l, g, i)`: `l` says leftwards, `g` says the all-gather phase, and `i = 2 * step + subtile`.
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.SL.Sem

variable {F : FTy → Type} [FloatOps F]

/-- The shape of a buffer of `n` slots. -/
abbrev SN (n : Nat) : Shape := ⟨3, ![n, 512, 512]⟩

/-- A buffer of `n` slots. -/
abbrev BufN (n : Nat) := Memref sig .tc .vmem (SN n) .bf16

/-- Slot `i`, and no more, lies inside the buffer. -/
theorem slot_inb {n : Nat} (i : Fin n) : ∀ a, (![i.val, 0, 0] : Fin 3 → Nat) a + S1x512x512.size a ≤ (SN n).size a := by
  intro a
  have := i.isLt
  fin_cases a
  · show i.val + 1 ≤ n; omega
  · exact Nat.le_refl 512
  · exact Nat.le_refl 512

/-- Slot `i` of a buffer, as the box of the buffer it is. -/
abbrev slotR {n : Nat} (i : Fin n) : Rect (SN n) := Rect.unit (s := SN n) ![i.val, 0, 0] S1x512x512.size (slot_inb i)

/-- Slot `i` of a buffer, as the 512 by 512 memref the transfers name. -/
abbrev slot {n : Nat} (b : BufN n) (i : Fin n) : Memref sig .tc .vmem S512x512 .bf16 :=
  (b.slice (slotR i) (fun _ => rfl)).squeeze S512x512 squeezes_S1x512x512_S512x512

/-- What the chip asks of a buffer of `n` slots: stores and transfers of its slots are exact. -/
structure Exact (n : Nat) : Prop where
  packed : ∀ i : Fin n, (slotR i).PackedRows (EltTy.packing .bf16)
  words : ∀ i : Fin n, (slotR i).WholeWords (EltTy.packing .bf16)

/-- Six slots are exact. -/
theorem exact6 : Exact 6 := ⟨by decide, by decide⟩
/-- Two slots are exact. -/
theorem exact2 : Exact 2 := ⟨by decide, by decide⟩

/-- A slot of a whole buffer is word exact. -/
theorem slot_words {n : Nat} (he : Exact n) {b : BufN n} (hb : b.IsWhole) (i : Fin n) : (slot b i).view.WordExact :=
  (hb.wordExact_slice rfl _ (he.words i)).reshape _ _

/-- The send slots of the reduce-scatter, by direction. -/
abbrev rsS : Bool → BufN 6
  | false => Memref.whole cc0_scratch1
  | true => Memref.whole cc0_scratch5
/-- The landing slots of the reduce-scatter, by direction. -/
abbrev rsR : Bool → BufN 6
  | false => Memref.whole cc0_scratch2
  | true => Memref.whole cc0_scratch6
/-- The send slots of the all-gather, by direction. -/
abbrev agS : Bool → BufN 2
  | false => Memref.whole cc0_scratch3
  | true => Memref.whole cc0_scratch7
/-- The landing slots of the all-gather, by direction. -/
abbrev agR : Bool → BufN 6
  | false => Memref.whole cc0_scratch4
  | true => Memref.whole cc0_scratch8

theorem rsS_whole : ∀ l, (rsS l).IsWhole
  | false => Memref.isWhole_whole _
  | true => Memref.isWhole_whole _
theorem rsR_whole : ∀ l, (rsR l).IsWhole
  | false => Memref.isWhole_whole _
  | true => Memref.isWhole_whole _
theorem agS_whole : ∀ l, (agS l).IsWhole
  | false => Memref.isWhole_whole _
  | true => Memref.isWhole_whole _
theorem agR_whole : ∀ l, (agR l).IsWhole
  | false => Memref.isWhole_whole _
  | true => Memref.isWhole_whole _

/-- A message's name: leftwards?, all-gather?, and `2 * step + subtile`. -/
abbrev Msg := Bool × Bool × Fin 6

/-- Where a message is sent from. An all-gather message of a later step is the landing slot of the step before. -/
abbrev srcM : Msg → Memref sig .tc .vmem S512x512 .bf16
  | (l, false, i) => slot (rsS l) i
  | (l, true, 0) => slot (agS l) 0
  | (l, true, 1) => slot (agS l) 1
  | (l, true, 2) => slot (agR l) 0
  | (l, true, 3) => slot (agR l) 1
  | (l, true, 4) => slot (agR l) 2
  | (l, true, 5) => slot (agR l) 3

/-- Where a message lands. -/
abbrev dstM : Msg → Memref sig .tc .vmem S512x512 .bf16
  | (l, false, i) => slot (rsR l) i
  | (l, true, i) => slot (agR l) i

theorem srcM_words : ∀ μ, (srcM μ).view.WordExact
  | (l, false, i) => slot_words exact6 (rsS_whole l) i
  | (l, true, 0) => slot_words exact2 (agS_whole l) 0
  | (l, true, 1) => slot_words exact2 (agS_whole l) 1
  | (l, true, 2) => slot_words exact6 (agR_whole l) 0
  | (l, true, 3) => slot_words exact6 (agR_whole l) 1
  | (l, true, 4) => slot_words exact6 (agR_whole l) 2
  | (l, true, 5) => slot_words exact6 (agR_whole l) 3

theorem dstM_words : ∀ μ, (dstM μ).view.WordExact
  | (l, false, i) => slot_words exact6 (rsR_whole l) i
  | (l, true, i) => slot_words exact6 (agR_whole l) i

/-- The first of a message's twelve semaphore numbers' row. -/
def semBase (l g : Bool) : Nat := 3 + (if l then 24 else 0) + (if g then 12 else 0)

theorem semBase_lt (l g : Bool) (k : Nat) (hk : k < 12) : semBase l g + k < 51 := by
  cases l <;> cases g <;> simp [semBase] <;> omega

/-- The semaphore a message's sender waits on: its source slot has been read. -/
def sendSem (μ : Msg) : DmaSem sig := ⟨semBase μ.1 μ.2.1 + μ.2.2.val, semBase_lt _ _ _ (by omega)⟩
/-- The semaphore a message's receiver waits on: the message has landed. -/
def recvSem (μ : Msg) : DmaSem sig := ⟨semBase μ.1 μ.2.1 + (6 + μ.2.2.val), semBase_lt _ _ _ (by omega)⟩

/-- The runtime's barrier semaphore. -/
abbrev barS : Sem sig := (SemArray.scalar (sig.barrier 0 rfl) : Sems sig S_).sem

/-- The four sub-tiles' step-`k` output tile: the printed offsets. -/
def offT (d : Dev nD) (l : Bool) (u : Fin 2) (k : Fin 4) : Fin 2 → Nat :=
  match l, u with
  | false, 0 => k0_off3 d (BitVec.ofNat 32 k.val)
  | false, 1 => k0_off4 d (BitVec.ofNat 32 k.val)
  | true, 0 => k0_off5 d (k0_off5_at k)
  | true, 1 => k0_off6 d (k0_off6_at k)

theorem offT_inb (d : Dev nD) (l : Bool) (u : Fin 2) (k : Fin 4) : ∀ a, (offT d l u k) a + S512x512.size a ≤ S2048x2048.size a :=
  match l, u with
  | false, 0 => k0_off3_inb d k
  | false, 1 => k0_off4_inb d k
  | true, 0 => k0_off5_inb d k
  | true, 1 => k0_off6_inb d k

/-- The output tile whose reduction the device completes: the printed offsets. -/
def offF (d : Dev nD) (l : Bool) (u : Fin 2) : Fin 2 → Nat :=
  match l, u with
  | false, 0 => k0_off11 d
  | false, 1 => k0_off13 d
  | true, 0 => k0_off12 d
  | true, 1 => k0_off14 d

theorem offF_inb (d : Dev nD) (l : Bool) (u : Fin 2) : ∀ a, (offF d l u) a + S512x512.size a ≤ S2048x2048.size a :=
  match l, u with
  | false, 0 => k0_off11_inb d
  | false, 1 => k0_off13_inb d
  | true, 0 => k0_off12_inb d
  | true, 1 => k0_off14_inb d

/-- The chunk product's rows of the left operand, `r` chunks after the device's own: the printed offsets. -/
def offA (d : Dev nD) : Fin 4 → (Fin 2 → Nat)
  | 0 => k0_off1 d
  | 1 => k0_off7 d (BitVec.ofNat 32 (1 + (0 : Fin 2).val))
  | 2 => k0_off7 d (BitVec.ofNat 32 (1 + (1 : Fin 2).val))
  | 3 => k0_off9 d

theorem offA_inb (d : Dev nD) : ∀ (r : Fin 4), ∀ a, (offA d r) a + S512x1024.size a ≤ S2048x1024.size a
  | 0 => k0_off1_inb d
  | 1 => k0_off7_inb d 0
  | 2 => k0_off7_inb d 1
  | 3 => k0_off9_inb d

/-- The chunk product's rows of the output, `r` chunks after the device's own: the printed offsets. -/
def offO (d : Dev nD) : Fin 4 → (Fin 2 → Nat)
  | 0 => k0_off2 d
  | 1 => k0_off8 d (BitVec.ofNat 32 (1 + (0 : Fin 2).val))
  | 2 => k0_off8 d (BitVec.ofNat 32 (1 + (1 : Fin 2).val))
  | 3 => k0_off10 d

theorem offO_inb (d : Dev nD) : ∀ (r : Fin 4), ∀ a, (offO d r) a + S512x2048.size a ≤ S2048x2048.size a
  | 0 => k0_off2_inb d
  | 1 => k0_off8_inb d 0
  | 2 => k0_off8_inb d 1
  | 3 => k0_off10_inb d

/-- The device a message is sent to: the printed numbers. -/
def devOf (d : Dev nD) : Msg → Nat
  | (false, false, 0) => k0_dev3 d
  | (false, false, 1) => k0_dev4 d
  | (true, false, 0) => k0_dev5 d
  | (true, false, 1) => k0_dev6 d
  | (false, false, 2) => k0_dev7 d
  | (true, false, 2) => k0_dev8 d
  | (false, false, 3) => k0_dev9 d
  | (true, false, 3) => k0_dev10 d
  | (false, false, 4) => k0_dev11 d
  | (true, false, 4) => k0_dev12 d
  | (false, false, 5) => k0_dev13 d
  | (true, false, 5) => k0_dev14 d
  | (false, true, 0) => k0_dev15 d
  | (true, true, 0) => k0_dev16 d
  | (false, true, 1) => k0_dev17 d
  | (true, true, 1) => k0_dev18 d
  | (false, true, 2) => k0_dev19 d
  | (true, true, 2) => k0_dev20 d
  | (false, true, 3) => k0_dev21 d
  | (true, true, 3) => k0_dev22 d
  | (false, true, 4) => k0_dev23 d
  | (true, true, 4) => k0_dev24 d
  | (false, true, 5) => k0_dev25 d
  | (true, true, 5) => k0_dev26 d

theorem devOf_lt (d : Dev nD) : ∀ μ, devOf d μ < nD
  | (false, false, 0) => k0_dev3_lt d
  | (false, false, 1) => k0_dev4_lt d
  | (true, false, 0) => k0_dev5_lt d
  | (true, false, 1) => k0_dev6_lt d
  | (false, false, 2) => k0_dev7_lt d
  | (true, false, 2) => k0_dev8_lt d
  | (false, false, 3) => k0_dev9_lt d
  | (true, false, 3) => k0_dev10_lt d
  | (false, false, 4) => k0_dev11_lt d
  | (true, false, 4) => k0_dev12_lt d
  | (false, false, 5) => k0_dev13_lt d
  | (true, false, 5) => k0_dev14_lt d
  | (false, true, 0) => k0_dev15_lt d
  | (true, true, 0) => k0_dev16_lt d
  | (false, true, 1) => k0_dev17_lt d
  | (true, true, 1) => k0_dev18_lt d
  | (false, true, 2) => k0_dev19_lt d
  | (true, true, 2) => k0_dev20_lt d
  | (false, true, 3) => k0_dev21_lt d
  | (true, true, 3) => k0_dev22_lt d
  | (false, true, 4) => k0_dev23_lt d
  | (true, true, 4) => k0_dev24_lt d
  | (false, true, 5) => k0_dev25_lt d
  | (true, true, 5) => k0_dev26_lt d

/-! ## The values -/

/-- A chunk product. -/
def vDot (a : Vec F S512x1024 .bf16) (b : Vec F S1024x2048 .bf16) : FVec F S512x2048 .f32 := k0_pay2 a b
/-- A tile rounded to bf16, in the shape of a slot's box. -/
def vStage (v : Vec F S512x512 .f32) : FVec F S1x512x512 .bf16 := k0_pay3 v
/-- A landed tile added to an output tile. -/
def vAcc (v : Vec F S512x512 .f32) (w : Vec F S1x512x512 .bf16) : FVec F S512x512 .f32 := k0_pay10 v w
/-- A landed tile widened. -/
def vExt (w : Vec F S1x512x512 .bf16) : FVec F S512x512 .f32 := k0_pay37 w

/-! ## The steps -/

/-- A program of the kernel. -/
abbrev KProg (F : FTy → Type) [FloatOps F] (α : Type) := Prog (TpuEff nD τ sig (Elt F) Λ₀ .tc) α

/-- The left operand's block. -/
abbrev aM : Memref sig .tc .vmem S2048x1024 .bf16 := Memref.whole cc0_stg0_0
/-- The right operand's block. -/
abbrev bM : Memref sig .tc .vmem S1024x2048 .bf16 := Memref.whole cc0_stg1_0
/-- The output. -/
abbrev oM : Memref sig .tc .vmem S2048x2048 .f32 := Memref.whole cc0_stg2_0
/-- The copy of the right operand's block. -/
abbrev cM : Memref sig .tc .vmem S1024x2048 .bf16 := Memref.whole cc0_scratch0

/-- All of a buffer of the right operand's shape. -/
abbrev allB : Rect S1024x2048 := Rect.unit (s := S1024x2048) ![0, 0] S1024x2048.size inb_S1024x2048_S1024x2048_0_0

/-- A tile of the output. -/
abbrev tileR (off : Fin 2 → Nat) (h : ∀ a, off a + S512x512.size a ≤ S2048x2048.size a) : Rect S2048x2048 :=
  Rect.unit (s := S2048x2048) off S512x512.size h

/-- The right operand's block copied. -/
def pCopy : KProg F PUnit := do
  let v8 : Vec F S1024x2048 .bf16 ← Prog.lift (.load bM allB.toLoadRect (View.loadsAt_vmem h_S1024x2048))
  let _ : Vec F S1024x2048 .bf16 ← Prog.lift (.load cM allB.toLoadRect (View.loadsAt_vmem h_S1024x2048))
  Prog.lift (.store cM allB (k0_pay1 v8) Finset.univ (View.stores_vmem h_S1024x2048 ((Memref.isWhole_whole _).storeExact_slice rfl _ packedbf16_S1024x2048_S1024x2048_0_0) (fun _ => rfl)) (.inl rfl))

/-- A chunk of rows multiplied and stored. -/
def pDot (d : Dev nD) (r : Fin 4) : KProg F PUnit := do
  let v : Vec F S512x1024 .bf16 ← Prog.lift (.load aM (Rect.unit (s := S2048x1024) (offA d r) S512x1024.size (offA_inb d r)).toLoadRect (View.loadsAt_vmem h_S512x1024))
  let w : Vec F S1024x2048 .bf16 ← Prog.lift (.load cM allB.toLoadRect (View.loadsAt_vmem h_S1024x2048))
  let _ : Vec F S512x2048 .f32 ← Prog.lift (.load oM (Rect.unit (s := S2048x2048) (offO d r) S512x2048.size (offO_inb d r)).toLoadRect (View.loadsAt_vmem h_S512x2048))
  Prog.lift (.store oM (Rect.unit (s := S2048x2048) (offO d r) S512x2048.size (offO_inb d r)) (vDot v w) Finset.univ (View.stores_vmem_bits_univ h_S512x2048 rfl) (.inl rfl))

/-- An output tile rounded into a slot. -/
def pStage {n : Nat} (he : Exact n) (b : BufN n) (hb : b.IsWhole) (i : Fin n) (off : Fin 2 → Nat) (h : ∀ a, off a + S512x512.size a ≤ S2048x2048.size a) : KProg F PUnit := do
  let v : Vec F S512x512 .f32 ← Prog.lift (.load oM (tileR off h).toLoadRect (View.loadsAt_vmem h_S512x512))
  let _ : Vec F S1x512x512 .bf16 ← Prog.lift (.load b (slotR i).toLoadRect (View.loadsAt_vmem h_S1x512x512))
  Prog.lift (.store b (slotR i) (vStage v) Finset.univ (View.stores_vmem h_S1x512x512 (hb.storeExact_slice rfl _ (he.packed i)) (fun _ => rfl)) (.inl rfl))

/-- A landed tile added to an output tile. -/
def pAcc (b : BufN 6) (i : Fin 6) (off : Fin 2 → Nat) (h : ∀ a, off a + S512x512.size a ≤ S2048x2048.size a) : KProg F PUnit := do
  let v : Vec F S512x512 .f32 ← Prog.lift (.load oM (tileR off h).toLoadRect (View.loadsAt_vmem h_S512x512))
  let w : Vec F S1x512x512 .bf16 ← Prog.lift (.load b (slotR i).toLoadRect (View.loadsAt_vmem h_S1x512x512))
  let _ : Vec F S512x512 .f32 ← Prog.lift (.load oM (tileR off h).toLoadRect (View.loadsAt_vmem h_S512x512))
  Prog.lift (.store oM (tileR off h) (vAcc v w) Finset.univ (View.stores_vmem_bits_univ h_S512x512 rfl) (.inl rfl))

/-- A landed tile written over an output tile. -/
def pExt (b : BufN 6) (i : Fin 6) (off : Fin 2 → Nat) (h : ∀ a, off a + S512x512.size a ≤ S2048x2048.size a) : KProg F PUnit := do
  let w : Vec F S1x512x512 .bf16 ← Prog.lift (.load b (slotR i).toLoadRect (View.loadsAt_vmem h_S1x512x512))
  let _ : Vec F S512x512 .f32 ← Prog.lift (.load oM (tileR off h).toLoadRect (View.loadsAt_vmem h_S512x512))
  Prog.lift (.store oM (tileR off h) (vExt w) Finset.univ (View.stores_vmem_bits_univ h_S512x512 rfl) (.inl rfl))

/-- A message sent. -/
def pSend (d : Dev nD) (μ : Msg) : KProg F PUnit :=
  Prog.lift (.enqueueDma (srcM μ) (.remote (Dev.tc (⟨devOf d μ, devOf_lt d μ⟩ : Dev nD)) (dstM μ) (.dma (sendSem μ))) (.dma (recvSem μ)) (srcM_words μ) (dstM_words μ) ⟨⟨rfl, Or.inl rfl⟩, trivial⟩)

/-- A message received. -/
def pRecv (μ : Msg) : KProg F PUnit :=
  Prog.lift (.waitDma2 (recvSem μ) (srcM μ) (dstM μ) (srcM_words μ) (dstM_words μ))

/-- A message known to have left. -/
def pLeft (μ : Msg) : KProg F PUnit :=
  Prog.lift (.waitDma2 (sendSem μ) (dstM μ) (srcM μ) (dstM_words μ) (srcM_words μ))

/-- The entry handshake. -/
def pBar (d : Dev nD) : KProg F PUnit := do
  semSignalWord (⟨k0_dev1 d, k0_dev1_lt d⟩ : Dev nD) barS 1#32
  semSignalWord (⟨k0_dev2 d, k0_dev2_lt d⟩ : Dev nD) barS 1#32
  semWaitWord barS 2#32

/-- Step `s` and sub-tile `u` as a message's number. -/
abbrev ix (s : Fin 3) (u : Fin 2) : Fin 6 := ⟨2 * s.val + u.val, by omega⟩

/-- A reduce-scatter message staged and sent. -/
def pRs (d : Dev nD) (l : Bool) (s : Fin 3) (u : Fin 2) : KProg F PUnit := do
  pStage exact6 (rsS l) (rsS_whole l) (ix s u) (offT d l u s.castSucc) (offT_inb d l u s.castSucc)
  pSend d (l, false, ix s u)

/-- A reduce-scatter message received and added. -/
def pAdd (d : Dev nD) (l : Bool) (s : Fin 3) (u : Fin 2) : KProg F PUnit := do
  pRecv (l, false, ix s u)
  pAcc (rsR l) (ix s u) (offT d l u s.succ) (offT_inb d l u s.succ)

/-- The completed tile staged and sent. -/
def pAg (d : Dev nD) (l : Bool) (u : Fin 2) : KProg F PUnit := do
  pStage exact2 (agS l) (agS_whole l) u (offF d l u) (offF_inb d l u)
  pSend d (l, true, ix 0 u)

/-- An all-gather message received, passed on and written. -/
def pFwd (d : Dev nD) (l : Bool) (s : Fin 2) (u : Fin 2) : KProg F PUnit := do
  pRecv (l, true, ix s.castSucc u)
  pSend d (l, true, ix s.succ u)
  pExt (agR l) (ix s.castSucc u) (offT d l u s.castSucc.castSucc) (offT_inb d l u s.castSucc.castSucc)

/-- The last all-gather message received and written. -/
def pLast (d : Dev nD) (l : Bool) (u : Fin 2) : KProg F PUnit := do
  pRecv (l, true, ix 2 u)
  pExt (agR l) (ix 2 u) (offT d l u 2) (offT_inb d l u 2)

/-- The body up to the second chunk products. -/
def pStart (d : Dev nD) : KProg F PUnit := do
  pCopy
  pDot d 0
  pBar d
  pRs d false 0 0
  pRs d false 0 1
  pRs d true 0 0
  pRs d true 0 1
  pDot d 1
  pDot d 3

/-- The reduce-scatter after its first messages. -/
def pReduce (d : Dev nD) : KProg F PUnit := do
  pAdd d false 0 0
  pRs d false 1 0
  pAdd d true 0 0
  pRs d true 1 0
  pAdd d false 0 1
  pRs d false 1 1
  pAdd d true 0 1
  pRs d true 1 1
  pDot d 2
  pAdd d false 1 0
  pRs d false 2 0
  pAdd d true 1 0
  pRs d true 2 0
  pAdd d false 1 1
  pRs d false 2 1
  pAdd d true 1 1
  pRs d true 2 1
  pAdd d false 2 0
  pAg d false 0
  pAdd d true 2 0
  pAg d true 0
  pAdd d false 2 1
  pAg d false 1
  pAdd d true 2 1
  pAg d true 1

/-- The all-gather after its first messages. -/
def pGather (d : Dev nD) : KProg F PUnit := do
  pFwd d false 0 0
  pFwd d true 0 0
  pFwd d false 0 1
  pFwd d true 0 1
  pFwd d false 1 0
  pFwd d true 1 0
  pFwd d false 1 1
  pFwd d true 1 1
  pLast d false 0
  pLast d true 0
  pLast d false 1
  pLast d true 1

/-- The messages of one direction known to have left. -/
def pDrain (l : Bool) : KProg F PUnit := do
  pLeft (l, false, 0)
  pLeft (l, true, 0)
  pLeft (l, false, 1)
  pLeft (l, true, 1)
  pLeft (l, false, 2)
  pLeft (l, true, 2)
  pLeft (l, false, 3)
  pLeft (l, true, 3)
  pLeft (l, false, 4)
  pLeft (l, true, 4)
  pLeft (l, false, 5)
  pLeft (l, true, 5)

/-- The body. -/
def pBody : KProg F PUnit := do
  let d : Dev nD ← Prog.lift .deviceId
  pStart d
  pReduce d
  pGather d
  pDrain false
  pDrain true

/-- The kernel function at its operands. -/
abbrev body0 : KProg F PUnit :=
  cc0_body (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16

set_option maxRecDepth 65536 in
set_option maxHeartbeats 1000000 in
/-- The printed body is the sequence of steps. -/
theorem body_eq : body0 (F := F) = pBody := by
  simp only [body0, cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel]
  simp only [Prog.lift, Prog.bind_op, Prog.bind_ret, Prog.pure_eq_ret]
  simp only [pBody, pStart, pReduce, pGather, pDrain, pRs, pAdd, pAg, pFwd, pLast, pBar, pCopy, pDot, pStage, pAcc, pExt, pSend, pRecv, pLeft, semSignalWord, semWaitWord, Prog.lift, Prog.bind_op, Prog.bind_ret, Prog.pure_eq_ret]
  with_unfolding_all rfl

end Cert.KernelIdeal.Ring

end
-- ==== Proof.KI.Slots.lean ====
/-
# Slots and tiles

A slot of a buffer is named in two ways: as a box of the buffer, which the loads and stores go through, and as a
512 by 512 memref, which the transfers go through. The two name the same elements; a slot's contents are stated
through the memref. The output's tiles are named by their offsets.
-/
module

public import proofs.«01_k».proof.Proof.KI.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the ring: rounds of cells whose duties are named by a Boolean. -/
abbrev UB : Type := URounds (GSem nD τ sig) Bool
/-- The resources of the launch beside those of the ring. -/
abbrev UU : Type := UR sig nD τ × UB

local notation "𝕄" => MT nD τ sig Unit (Elt F) ℕ UU ℕ

/-- The launch's resources, embedded. -/
abbrev EP : Emb (UR sig nD τ) (MT nD τ sig Unit (Elt F) ℕ UU ℕ) := embL
/-- The ring's resources, embedded. -/
abbrev ER : Emb UB (MT nD τ sig Unit (Elt F) ℕ UU ℕ) := embR

/-- No loop variants. -/
abbrev 𝒱₀ : Variants := Variants.none

/-- The weakest precondition of a piece of device `c`'s body. -/
abbrev wpc (c : Dev nD) {α : Type} (p : KProg F α) (Q : α → sProp 𝕄) : sProp 𝕄 :=
  wp frame (wpE (defs₀ (F := F)) 𝒱₀ (c : Thread nD τ) none) Set.univ p Q

theorem numel_slot : S512x512.numel = S1x512x512.numel := by decide

/-- A slot's box read as a 512 by 512 array. -/
def sq (w : Vec F S1x512x512 .bf16) : Vec F S512x512 .bf16 := fun x => w (Shape.reshapeEquiv numel_slot x)
/-- A 512 by 512 array as a slot's box. -/
def un (X : Vec F S512x512 .bf16) : Vec F S1x512x512 .bf16 := fun j => X (Shape.reshapeEquiv numel_slot.symm j)

theorem un_sq (w : Vec F S1x512x512 .bf16) : un (sq w) = w := by
  funext j; show w (Shape.reshapeEquiv _ (Shape.reshapeEquiv _ j)) = w j
  rw [Shape.reshapeEquiv_reshapeEquiv, Shape.reshapeEquiv_self]

theorem sq_un (X : Vec F S512x512 .bf16) : sq (un X) = X := by
  funext j; show X (Shape.reshapeEquiv _ (Shape.reshapeEquiv _ j)) = X j
  rw [Shape.reshapeEquiv_reshapeEquiv, Shape.reshapeEquiv_self]

variable {n : Nat} (b : BufN n) (i : Fin n)

theorem slot_set : (slot b i).view.set = (b.access (slotR i)).set := View.set_reshape _ _

/-- A load of a slot's box reads the slot. -/
theorem read_slot (f : b.view.ty.Contents (Elt F)) :
    b.view.readAt (Elt F) (slotR i).toLoadRect f = un ((slot b i).view.read (Elt F) f) := by
  have : (slot b i).view.read (Elt F) f = sq ((b.access (slotR i)).read (Elt F) f) := rfl
  rw [this, un_sq]; rfl

/-- A store of a slot's box writes the slot. -/
theorem write_slot (f : b.view.ty.Contents (Elt F)) (w : Vec F S1x512x512 .bf16) :
    (slot b i).view.read (Elt F) ((b.access (slotR i)).write (Elt F) f w Finset.univ) = sq w := by
  have (g : b.view.ty.Contents (Elt F)) : (slot b i).view.read (Elt F) g = sq ((b.access (slotR i)).read (Elt F) g) := rfl
  rw [this, View.read_write_univ]

/-- A load of a slot, the slot owned. -/
theorem wp_load_slot (c : Dev nD) (q : PosShare TreeShare) (X : Vec F S512x512 .bf16) {hl} {α : Type} {k : Vec F S1x512x512 .bf16 → KProg F α} {Q : α → sProp 𝕄} :
    (owns (c : Thread nD τ) (slot b i) q X : sProp 𝕄)
      ⊢ iprop((owns (c : Thread nD τ) (slot b i) q X -∗ wpc c (k (un X)) Q) -∗ wpc c (.op (.load b (slotR i).toLoadRect hl) k) Q) := by
  unfold owns
  iintro ⟨%f, %hf, H⟩ Hk
  subst hf
  rw [slot_set]
  iapply (wp_load_rect 𝒱₀ (c : Thread nD τ) none Set.univ (m := b) (r := slotR i) (Finset.Subset.refl _)) $$ H
  iintro H
  have e := read_slot b i f
  rw [View.readAt_rect] at e
  first
  | rw [e]
  | rw [← View.readAt_rect, read_slot]
  iapply Hk
  iexists f; isplitr; · (ipureintro; rfl)
  iexact H

/-- A store of a slot, the slot owned. -/
theorem wp_store_slot (c : Dev nD) (X : Vec F S512x512 .bf16) {w : Vec F S1x512x512 .bf16} {hx} {hm} {α : Type} {k : PUnit → KProg F α} {Q : α → sProp 𝕄} :
    (owns (c : Thread nD τ) (slot b i) fullShare X : sProp 𝕄)
      ⊢ iprop((owns (c : Thread nD τ) (slot b i) fullShare (sq w) -∗ wpc c (k ⟨⟩) Q) -∗ wpc c (.op (.store b (slotR i) w Finset.univ hx hm) k) Q) := by
  unfold owns
  iintro ⟨%f, %hf, H⟩ Hk
  subst hf
  rw [slot_set]
  iapply (wp_store 𝒱₀ (c : Thread nD τ) none Set.univ (m := b) (r := slotR i) (Mk := Finset.univ) (by rw [View.setOn_univ])) $$ H
  iintro H
  iapply Hk
  iexists _; isplitr; · (ipureintro; exact write_slot b i f w)
  iexact H

end Cert.KernelIdeal.Ring

end
-- ==== Proof.KI.Tiles.lean ====
/-
# The computing steps

The output is sixteen tiles, which a device names relatively to itself: `(l, u, k)` is the tile of direction `l` and
sub-tile `u` that step `k` of the reduce-scatter touches. What each computing step does to the output and to a slot.
-/
module

public import proofs.«01_k».proof.Proof.KI.Slots

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A tile's name: direction, sub-tile, step. -/
abbrev Tl := Bool × Fin 2 × Fin 4

/-- A tile's box of the output. -/
abbrev tlR (c : Dev nD) (t : Tl) : Rect S2048x2048 := tileR (offT c t.1 t.2.1 t.2.2) (offT_inb c t.1 t.2.1 t.2.2)
/-- A chunk of rows of the left operand. -/
abbrev aR (c : Dev nD) (r : Fin 4) : Rect S2048x1024 := Rect.unit (s := S2048x1024) (offA c r) S512x1024.size (offA_inb c r)
/-- A chunk of rows of the output. -/
abbrev oR (c : Dev nD) (r : Fin 4) : Rect S2048x2048 := Rect.unit (s := S2048x2048) (offO c r) S512x2048.size (offO_inb c r)

/-- Which chunk a tile lies in: rightwards tiles go down from the device's own, leftwards tiles up. -/
def chunkOf (t : Tl) : Fin 4 := if t.1 then t.2.2 else -t.2.2
/-- A tile's first column. -/
def colOf (t : Tl) : Nat := (if t.1 then 0 else 1024) + 512 * t.2.1.val

theorem colOf_inb (t : Tl) : ∀ a, (![0, colOf t] : Fin 2 → Nat) a + S512x512.size a ≤ S512x2048.size a := by
  revert t; decide
/-- A tile's box of its chunk. -/
abbrev inR (t : Tl) : Rect S512x2048 := Rect.unit (s := S512x2048) ![0, colOf t] S512x512.size (colOf_inb t)

theorem off_chunk : ∀ (c : Dev nD) (t : Tl), offT c t.1 t.2.1 t.2.2 0 = offO c (chunkOf t) 0 ∧ offT c t.1 t.2.1 t.2.2 1 = offO c (chunkOf t) 1 + colOf t := by
  decide +kernel
theorem off_apart : ∀ (c : Dev nD) (t t' : Tl), t ≠ t' → ∃ a : Fin 2,
    offT c t.1 t.2.1 t.2.2 a + 512 ≤ offT c t'.1 t'.2.1 t'.2.2 a ∨ offT c t'.1 t'.2.1 t'.2.2 a + 512 ≤ offT c t.1 t.2.1 t.2.2 a := by
  decide +kernel
theorem off_chunk_apart : ∀ (c : Dev nD) (t : Tl) (r : Fin 4), chunkOf t ≠ r →
    (offT c t.1 t.2.1 t.2.2 0 + 512 ≤ offO c r 0 ∨ offO c r 0 + 512 ≤ offT c t.1 t.2.1 t.2.2 0) := by
  decide +kernel
theorem offF_eq : ∀ (c : Dev nD) (l : Bool) (u : Fin 2), offF c l u = offT c l u 3 := by decide +kernel

/-- The output's contents. -/
abbrev OutC (F : FTy → Type) [FloatOps F] := (cc0_stg2_0 : Ref sig .tc).ty.Contents (Elt F)

/-- A tile of the output. -/
def tile (c : Dev nD) (t : Tl) (f : OutC F) : Vec F S512x512 .f32 := (oM.access (tlR c t)).read (Elt F) f

/-- A tile of a chunk. -/
def part (t : Tl) (P : FVec F S512x2048 .f32) : Vec F S512x512 .f32 := fun x => P ((inR t).emb x)

theorem emb_chunk (c : Dev nD) (t : Tl) (x : S512x512.Idx) : (tlR c t).emb x = (oR c (chunkOf t)).emb ((inR t).emb x) := by
  obtain ⟨h0, h1⟩ := off_chunk c t
  refine funext fun a => Fin.ext ?_
  rw [Rect.emb_apply, Rect.emb_apply, Rect.emb_apply]
  fin_cases a
  · show offT c t.1 t.2.1 t.2.2 0 + 1 * (x 0 : Nat) = offO c (chunkOf t) 0 + 1 * (0 + 1 * (x 0 : Nat))
    omega
  · show offT c t.1 t.2.1 t.2.2 1 + 1 * (x 1 : Nat) = offO c (chunkOf t) 1 + 1 * (colOf t + 1 * (x 1 : Nat))
    omega

/-- The tiles of a chunk just stored; -/
theorem tile_dot (c : Dev nD) (t : Tl) (f : OutC F) (P : FVec F S512x2048 .f32) :
    tile c t ((oM.access (oR c (chunkOf t))).write (Elt F) f P Finset.univ) = part t P := by
  funext x
  have h := View.read_slice_write_emb (Val := Elt F) (v := (oM : Memref sig .tc .vmem S2048x2048 .f32).view) (oR c (chunkOf t)) f P (M := Finset.univ) (x := (inR t).emb x) (Finset.mem_univ _)
  rw [← emb_chunk] at h
  exact h

/-- the other tiles stay. -/
theorem tile_dot_ne (c : Dev nD) (t : Tl) (r : Fin 4) (h : chunkOf t ≠ r) (f : OutC F) (P : FVec F S512x2048 .f32) :
    tile c t ((oM.access (oR c r)).write (Elt F) f P Finset.univ) = tile c t f := by
  refine View.read_slice_write_slice_of_disjoint (v := (oM : Memref sig .tc .vmem S2048x2048 .f32).view) (tlR c t) (oR c r) f P Finset.univ ?_
  rw [View.setOn_univ, View.set_slice, View.set_slice]
  exact (Finset.disjoint_map _).mpr (Rect.unit_disjoint (0 : Fin 2) (off_chunk_apart c t r h))

/-- The tile just stored; -/
theorem tile_put (c : Dev nD) (t : Tl) (f : OutC F) (v : Vec F S512x512 .f32) :
    tile c t ((oM.access (tlR c t)).write (Elt F) f v Finset.univ) = v := View.read_write_univ _ _

/-- the other tiles stay. -/
theorem tile_put_ne (c : Dev nD) (t t' : Tl) (h : t ≠ t') (f : OutC F) (v : Vec F S512x512 .f32) :
    tile c t ((oM.access (tlR c t')).write (Elt F) f v Finset.univ) = tile c t f := by
  refine View.read_slice_write_slice_of_disjoint (v := (oM : Memref sig .tc .vmem S2048x2048 .f32).view) (tlR c t) (tlR c t') f v Finset.univ ?_
  rw [View.setOn_univ, View.set_slice, View.set_slice]
  obtain ⟨a, ha⟩ := off_apart c t t' h
  refine (Finset.disjoint_map _).mpr (Rect.unit_disjoint a ?_)
  have hs : S512x512.size a = 512 := by fin_cases a <;> rfl
  rw [hs]
  exact ha

/-- A whole staging or scratch buffer held at contents `f`. -/
abbrev bufP (c : Dev nD) (b : Ref sig .tc) (f : b.ty.Contents (Elt F)) : sProp 𝕄 := ((c : Thread nD τ).loc b) ↦{fullShare} f

theorem hz : (![0, 0] : Fin 2 → Nat) = fun _ => 0 := funext fun a => by fin_cases a <;> rfl

/-- A load of all of the right operand; -/
theorem read_b (x : (cc0_stg1_0 : Ref sig .tc).ty.Contents (Elt F)) : (bM : Memref sig .tc .vmem S1024x2048 .bf16).view.readAt (Elt F) allB.toLoadRect x = x :=
  Memref.readAt_unit_zero (Elt F) cc0_stg1_0 hz _ x
/-- a load of all of its copy; -/
theorem read_c (x : (cc0_scratch0 : Ref sig .tc).ty.Contents (Elt F)) : (cM : Memref sig .tc .vmem S1024x2048 .bf16).view.readAt (Elt F) allB.toLoadRect x = x :=
  Memref.readAt_unit_zero (Elt F) cc0_scratch0 hz _ x
/-- a store of all of its copy. -/
theorem write_c (x w : (cc0_scratch0 : Ref sig .tc).ty.Contents (Elt F)) : ((cM : Memref sig .tc .vmem S1024x2048 .bf16).access allB : View sig .tc _ _ _).write (Elt F) x w Finset.univ = w :=
  Memref.write_access_unit_zero_univ (Elt F) cc0_scratch0 hz _ x w

/-- A finished step. -/
theorem wpc_ret (c : Dev nD) (Q : PUnit → sProp 𝕄) : Q ⟨⟩ ⊢ wpc (F := F) c (Prog.ret ⟨⟩) Q := by
  iintro H
  unfold wpc
  rw [wp_ret]
  imodintro
  iexact H

/-- The copy of the right operand. -/
def vCopy (x : (cc0_stg1_0 : Ref sig .tc).ty.Contents (Elt F)) : Vec F S1024x2048 .bf16 := k0_pay1 (F := F) x

/-- The copy step. -/
theorem wp_copy (c : Dev nD) (x : (cc0_stg1_0 : Ref sig .tc).ty.Contents (Elt F)) (y : (cc0_scratch0 : Ref sig .tc).ty.Contents (Elt F)) (Q : PUnit → sProp 𝕄) :
    iprop(bufP c cc0_stg1_0 x ∗ bufP c cc0_scratch0 y ∗ ((bufP c cc0_stg1_0 x ∗ bufP c cc0_scratch0 (vCopy x)) -∗ Q ⟨⟩)) ⊢ wpc c pCopy Q := by
  unfold pCopy
  simp only [Prog.lift, Prog.bind_op, Prog.bind_ret]
  iintro ⟨Hx, Hy, Hk⟩
  iapply (wp_load 𝒱₀ (c : Thread nD τ) none Set.univ (m := bM) (Finset.subset_univ _)) $$ Hx; iintro Hx
  iapply (wp_load 𝒱₀ (c : Thread nD τ) none Set.univ (m := cM) (Finset.subset_univ _)) $$ Hy; iintro Hy
  iapply (wp_store 𝒱₀ (c : Thread nD τ) none Set.univ (m := cM) (r := allB) (Mk := Finset.univ) (Finset.subset_univ _)) $$ Hy; iintro Hy
  rw [read_b, write_c]
  iapply (wpc_ret c)
  iapply Hk
  isplitl [Hx]; · iexact Hx
  iexact Hy

/-- The chunk product of rows `r`. -/
def dotV (c : Dev nD) (r : Fin 4) (x : (cc0_stg0_0 : Ref sig .tc).ty.Contents (Elt F)) (y : Vec F S1024x2048 .bf16) : FVec F S512x2048 .f32 :=
  vDot (aM.view.readAt (Elt F) (aR c r).toLoadRect x) y

/-- A chunk product step. -/
theorem wp_dot (c : Dev nD) (r : Fin 4) (x : (cc0_stg0_0 : Ref sig .tc).ty.Contents (Elt F)) (y : (cc0_scratch0 : Ref sig .tc).ty.Contents (Elt F)) (f : OutC F) (Q : PUnit → sProp 𝕄) :
    iprop(bufP c cc0_stg0_0 x ∗ bufP c cc0_scratch0 y ∗ bufP c cc0_stg2_0 f
        ∗ ((bufP c cc0_stg0_0 x ∗ bufP c cc0_scratch0 y ∗ bufP c cc0_stg2_0 ((oM.access (oR c r)).write (Elt F) f (dotV c r x y) Finset.univ)) -∗ Q ⟨⟩))
      ⊢ wpc c (pDot c r) Q := by
  unfold pDot
  simp only [Prog.lift, Prog.bind_op, Prog.bind_ret]
  iintro ⟨Hx, Hy, Hf, Hk⟩
  iapply (wp_load 𝒱₀ (c : Thread nD τ) none Set.univ (m := aM) (Finset.subset_univ _)) $$ Hx; iintro Hx
  iapply (wp_load 𝒱₀ (c : Thread nD τ) none Set.univ (m := cM) (Finset.subset_univ _)) $$ Hy; iintro Hy
  iapply (wp_load 𝒱₀ (c : Thread nD τ) none Set.univ (m := oM) (Finset.subset_univ _)) $$ Hf; iintro Hf
  iapply (wp_store 𝒱₀ (c : Thread nD τ) none Set.univ (m := oM) (r := oR c r) (Mk := Finset.univ) (Finset.subset_univ _)) $$ Hf; iintro Hf
  rw [read_c]
  iapply (wpc_ret c)
  iapply Hk
  isplitl [Hx]; · iexact Hx
  isplitl [Hy]; · iexact Hy
  iexact Hf

/-- A staging step: the tile, rounded, in the slot. -/
theorem wp_stage (c : Dev nD) {n : Nat} (he : Exact n) (b : BufN n) (hb : b.IsWhole) (i : Fin n) (t : Tl) (f : OutC F) (X : Vec F S512x512 .bf16) (Q : PUnit → sProp 𝕄) :
    iprop(bufP c cc0_stg2_0 f ∗ owns (c : Thread nD τ) (slot b i) fullShare X
        ∗ ((bufP c cc0_stg2_0 f ∗ owns (c : Thread nD τ) (slot b i) fullShare (sq (vStage (tile c t f)))) -∗ Q ⟨⟩))
      ⊢ wpc c (pStage he b hb i (offT c t.1 t.2.1 t.2.2) (offT_inb c t.1 t.2.1 t.2.2)) Q := by
  unfold pStage
  simp only [Prog.lift, Prog.bind_op, Prog.bind_ret]
  iintro ⟨Hf, Hs, Hk⟩
  iapply (wp_load 𝒱₀ (c : Thread nD τ) none Set.univ (m := oM) (Finset.subset_univ _)) $$ Hf; iintro Hf
  iapply (wp_load_slot b i c fullShare X) $$ Hs; iintro Hs
  iapply (wp_store_slot b i c X) $$ Hs; iintro Hs
  iapply (wpc_ret c)
  iapply Hk
  isplitl [Hf]; · iexact Hf
  iexact Hs

/-- An adding step: the landed tile added to the tile. -/
theorem wp_acc (c : Dev nD) (b : BufN 6) (i : Fin 6) (t : Tl) (f : OutC F) (q : PosShare TreeShare) (X : Vec F S512x512 .bf16) (Q : PUnit → sProp 𝕄) :
    iprop(bufP c cc0_stg2_0 f ∗ owns (c : Thread nD τ) (slot b i) q X
        ∗ ((bufP c cc0_stg2_0 ((oM.access (tlR c t)).write (Elt F) f (vAcc (tile c t f) (un X)) Finset.univ) ∗ owns (c : Thread nD τ) (slot b i) q X) -∗ Q ⟨⟩))
      ⊢ wpc c (pAcc b i (offT c t.1 t.2.1 t.2.2) (offT_inb c t.1 t.2.1 t.2.2)) Q := by
  unfold pAcc
  simp only [Prog.lift, Prog.bind_op, Prog.bind_ret]
  iintro ⟨Hf, Hs, Hk⟩
  iapply (wp_load 𝒱₀ (c : Thread nD τ) none Set.univ (m := oM) (Finset.subset_univ _)) $$ Hf; iintro Hf
  iapply (wp_load_slot b i c q X) $$ Hs; iintro Hs
  iapply (wp_load 𝒱₀ (c : Thread nD τ) none Set.univ (m := oM) (Finset.subset_univ _)) $$ Hf; iintro Hf
  iapply (wp_store 𝒱₀ (c : Thread nD τ) none Set.univ (m := oM) (r := tlR c t) (Mk := Finset.univ) (Finset.subset_univ _)) $$ Hf; iintro Hf
  iapply (wpc_ret c)
  iapply Hk
  isplitl [Hf]; · iexact Hf
  iexact Hs

/-- A writing step: the landed tile over the tile. -/
theorem wp_ext (c : Dev nD) (b : BufN 6) (i : Fin 6) (t : Tl) (f : OutC F) (q : PosShare TreeShare) (X : Vec F S512x512 .bf16) (Q : PUnit → sProp 𝕄) :
    iprop(bufP c cc0_stg2_0 f ∗ owns (c : Thread nD τ) (slot b i) q X
        ∗ ((bufP c cc0_stg2_0 ((oM.access (tlR c t)).write (Elt F) f (vExt (un X)) Finset.univ) ∗ owns (c : Thread nD τ) (slot b i) q X) -∗ Q ⟨⟩))
      ⊢ wpc c (pExt b i (offT c t.1 t.2.1 t.2.2) (offT_inb c t.1 t.2.1 t.2.2)) Q := by
  unfold pExt
  simp only [Prog.lift, Prog.bind_op, Prog.bind_ret]
  iintro ⟨Hf, Hs, Hk⟩
  iapply (wp_load_slot b i c q X) $$ Hs; iintro Hs
  iapply (wp_load 𝒱₀ (c : Thread nD τ) none Set.univ (m := oM) (Finset.subset_univ _)) $$ Hf; iintro Hf
  iapply (wp_store 𝒱₀ (c : Thread nD τ) none Set.univ (m := oM) (r := tlR c t) (Mk := Finset.univ) (Finset.subset_univ _)) $$ Hf; iintro Hf
  iapply (wpc_ret c)
  iapply Hk
  isplitl [Hf]; · iexact Hf
  iexact Hs

end Cert.KernelIdeal.Ring

end
-- ==== Proof.KI.Base.lean ====
/-
# The protocol

Each device sends each message to one neighbour: a leftwards message to the device before it in the ring, a
rightwards message to the device after it. A message has a send cell at its sender, credited when the source has
been read, and a receive cell at its receiver, credited when it has landed. Every cell is used for one round.
At the entry handshake a device hands each neighbour the landing slots that neighbour sends to.
-/
module

public import proofs.«01_k».proof.Proof.KI.Tiles
public import Idealize.ShloMosaic.Lib.MemrefSat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring -/

/-- The device after `c`. -/
def nxt (c : Dev nD) : Dev nD := ⟨(c.val + 1) % 4, Nat.mod_lt _ (by decide)⟩
/-- The device before `c`. -/
def prv (c : Dev nD) : Dev nD := ⟨(c.val + 3) % 4, Nat.mod_lt _ (by decide)⟩

/-- Where device `c` sends its messages of direction `l`. -/
def dstDev (l : Bool) (c : Dev nD) : Dev nD := if l then prv c else nxt c
/-- Where device `c`'s messages of direction `l` come from. -/
def srcDev (l : Bool) (c : Dev nD) : Dev nD := if l then nxt c else prv c

theorem src_dst : ∀ (l : Bool) (c : Dev nD), srcDev l (dstDev l c) = c := by decide
theorem dst_src : ∀ (l : Bool) (c : Dev nD), dstDev l (srcDev l c) = c := by decide

/-- The ring turned one way. -/
def turn (l : Bool) : Dev nD ≃ Dev nD := ⟨dstDev l, srcDev l, src_dst l, dst_src l⟩

theorem dev1_eq : ∀ c : Dev nD, (⟨k0_dev1 c, k0_dev1_lt c⟩ : Dev nD) = dstDev true c := by decide +kernel
theorem dev2_eq : ∀ c : Dev nD, (⟨k0_dev2 c, k0_dev2_lt c⟩ : Dev nD) = dstDev false c := by decide +kernel
theorem devOf_eq : ∀ (c : Dev nD) (μ : Msg), (⟨devOf c μ, devOf_lt c μ⟩ : Dev nD) = dstDev μ.1 c := by decide +kernel

/-! ## The cells -/

/-- A device's barrier cell. -/
abbrev barCell (c : Dev nD) : GSem nD τ sig := ((c : Thread nD τ), .reg barS)
/-- A message's semaphore: the receiver's, or the sender's. -/
def xSem (x : Msg × Bool) : DmaSem sig := if x.2 then recvSem x.1 else sendSem x.1
/-- A device's send or receive cell of a message. -/
abbrev xCell (c : Dev nD) (x : Msg × Bool) : GSem nD τ sig := ((c : Thread nD τ), .dma (xSem x))
/-- A device's send cell of a message. -/
abbrev sendCell (c : Dev nD) (μ : Msg) : GSem nD τ sig := ((c : Thread nD τ), .dma (sendSem μ))
/-- A device's receive cell of a message. -/
abbrev recvCell (c : Dev nD) (μ : Msg) : GSem nD τ sig := ((c : Thread nD τ), .dma (recvSem μ))

/-- The message and side a semaphore belongs to. -/
def unSem (q : DmaSem sig) : Msg × Bool :=
  ((decide (24 ≤ q.val - 3), decide (12 ≤ (q.val - 3) % 24), ⟨(q.val - 3) % 6, Nat.mod_lt _ (by decide)⟩), decide (6 ≤ (q.val - 3) % 12))

theorem unSem_x : ∀ x : Msg × Bool, unSem (xSem x) = x ∧ 3 ≤ (xSem x).val := by decide +kernel
theorem xSem_inj : Function.Injective xSem := fun x y h => by rw [← (unSem_x x).1, h, (unSem_x y).1]
theorem x_send (μ : Msg) : xSem (μ, false) = sendSem μ := rfl
theorem x_recv (μ : Msg) : xSem (μ, true) = recvSem μ := rfl

/-- The credit of a transfer. -/
abbrev N : ℕ := (slot (rsS false) 0).view.dmaCredit
theorem N_pos : 0 < N := View.dmaCredit_pos _ (by decide)

theorem credit_dst : ∀ μ : Msg, (dstM μ).view.dmaCredit = N
  | (false, false, _) => rfl
  | (true, false, _) => rfl
  | (false, true, _) => rfl
  | (true, true, _) => rfl

theorem credit_src : ∀ μ : Msg, (srcM μ).view.dmaCredit = N
  | (false, false, _) => rfl
  | (true, false, _) => rfl
  | (false, true, 0) => rfl
  | (false, true, 1) => rfl
  | (false, true, 2) => rfl
  | (false, true, 3) => rfl
  | (false, true, 4) => rfl
  | (false, true, 5) => rfl
  | (true, true, 0) => rfl
  | (true, true, 1) => rfl
  | (true, true, 2) => rfl
  | (true, true, 3) => rfl
  | (true, true, 4) => rfl
  | (true, true, 5) => rfl

/-! ## Contents -/

section Contents

variable (xa : Dev nD → (cc0_stg0_0 : Ref sig .tc).ty.Contents (Elt F)) (xb : Dev nD → (cc0_stg1_0 : Ref sig .tc).ty.Contents (Elt F))

/-- A tile of device `c`'s own product. -/
def own (c : Dev nD) (t : Tl) : Vec F S512x512 .f32 := part t (dotV c (chunkOf t) (xa c) (vCopy (xb c)))

/-- The partial sum a device has at step `s` of the reduce-scatter. -/
def acc (l : Bool) (u : Fin 2) : ℕ → Dev nD → Vec F S512x512 .f32
  | 0, c => own xa xb c (l, u, 0)
  | s + 1, c => vAcc (own xa xb c (l, u, Fin.ofNat 4 (s + 1))) (un (sq (vStage (acc l u s (srcDev l c)))))

/-- What a device sends at step `s` of the reduce-scatter. -/
def rsVal (l : Bool) (u : Fin 2) (s : ℕ) (c : Dev nD) : Vec F S512x512 .bf16 := sq (vStage (acc xa xb l u s c))

/-- What a device sends at step `s` of the all-gather. -/
def agVal (l : Bool) (u : Fin 2) : ℕ → Dev nD → Vec F S512x512 .bf16
  | 0, c => rsVal xa xb l u 3 c
  | s + 1, c => agVal l u s (srcDev l c)

/-- A message's step. -/
abbrev stepOf (μ : Msg) : ℕ := μ.2.2.val / 2
/-- A message's sub-tile. -/
abbrev subOf (μ : Msg) : Fin 2 := ⟨μ.2.2.val % 2, Nat.mod_lt _ (by decide)⟩

/-- What device `c` sends as message `μ`. -/
def val (c : Dev nD) (μ : Msg) : Vec F S512x512 .bf16 :=
  if μ.2.1 then agVal xa xb μ.1 (subOf μ) (stepOf μ) c else rsVal xa xb μ.1 (subOf μ) (stepOf μ) c

/-- What is known of a tile: nothing, the own product, the partial sum, or the landed result. -/
def TileOK (c : Dev nD) (t : Tl) (v : Vec F S512x512 .f32) : ℕ → Prop
  | 0 => True
  | 1 => v = own xa xb c t
  | 2 => v = acc xa xb t.1 t.2.1 t.2.2.val c
  | _ => v = vExt (un (agVal xa xb t.1 t.2.1 t.2.2.val (srcDev t.1 c)))

/-- What is known of the output. -/
def OutOK (c : Dev nD) (o : Tl → ℕ) (f : OutC F) : Prop := ∀ t, TileOK xa xb c t (tile c t f) (o t)

/-- Whether a message is a landed one passed on. -/
def fwd (μ : Msg) : Bool := μ.2.1 && decide (2 ≤ μ.2.2.val)

/-- What a message's departure gives back: its source, of which the receiver keeps half if it is passed on. -/
def sendPay (c : Dev nD) (μ : Msg) : sProp 𝕄 :=
  owns (c : Thread nD τ) (srcM μ) (if fwd μ then fullShare.right else fullShare) (val xa xb c μ)

/-- What a message's landing gives: the landing slot at the sender's message. -/
def recvPay (c : Dev nD) (μ : Msg) : sProp 𝕄 :=
  owns (c : Thread nD τ) (dstM μ) fullShare (val xa xb (srcDev μ.1 c) μ)

/-- A landing slot, at whatever it holds. -/
def land (c : Dev nD) (μ : Msg) : sProp 𝕄 := iprop(∃ X, owns (c : Thread nD τ) (dstM μ) fullShare X)

/-- What the handshake hands device `c`: the landing slots it sends to in direction `l`. -/
def barPay (c : Dev nD) (l : Bool) : sProp 𝕄 :=
  bigSep Finset.univ fun p : Bool × Fin 6 => land (F := F) (dstDev l c) (l, p)

instance sendPay_storable (c : Dev nD) (μ : Msg) : BI.Storable (upEmb : UEmb _ 𝕄) (sendPay xa xb c μ) := owns_storable _ _ _ _
instance recvPay_storable (c : Dev nD) (μ : Msg) : BI.Storable (upEmb : UEmb _ 𝕄) (recvPay xa xb c μ) := owns_storable _ _ _ _
instance land_storable (c : Dev nD) (μ : Msg) : BI.Storable (upEmb : UEmb _ 𝕄) (land (F := F) c μ) := by
  have (X : Vec F S512x512 .bf16) : BI.Storable (upEmb : UEmb _ 𝕄) (owns (c : Thread nD τ) (dstM μ) fullShare X) := owns_storable _ _ _ _
  unfold land; infer_instance
instance barPay_storable (c : Dev nD) (l : Bool) : BI.Storable (upEmb : UEmb _ 𝕄) (barPay (F := F) c l) := by
  unfold barPay; infer_instance

/-! ## The schedule -/

/-- Whether a semaphore is a message's. -/
def IsX : SemLoc sig → Bool
  | .dma q => decide (3 ≤ q.val)
  | _ => false

/-- What a duty of a cell hands its owner. -/
def payOf (c : Dev nD) (d : Bool) : SemLoc sig → sProp 𝕄
  | .dma q => if (unSem q).2 then recvPay xa xb c (unSem q).1 else sendPay xa xb c (unSem q).1
  | _ => barPay c d

/-- One round: a barrier cell has two duties of one unit, one from each neighbour; a message's cell has one duty of the
    transfer's credit. -/
def ringRd : Rounds.Schedule (GSem nD τ sig) Bool 𝕄 where
  duties g r := if r = 0 ∧ g.1.2 = .tc then (if g.2 = .reg barS then Finset.univ else if IsX g.2 = true then {false} else ∅) else ∅
  unitless _ := False
  amount g _ _ := if g.2 = .reg barS then 1 else N
  payload g _ d := payOf xa xb g.1.1 d g.2
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd xa xb).payload g r d) := by
  show BI.Storable upEmb (payOf xa xb g.1.1 d g.2)
  unfold payOf
  (repeat' split) <;> infer_instance

theorem x_ne_bar (q : DmaSem sig) : (SemLoc.dma q : SemLoc sig) ≠ .reg barS := fun h => by cases h

theorem duties_bar (c : Dev nD) : (ringRd xa xb).duties (barCell c) 0 = Finset.univ := by
  dsimp only [ringRd]; rw [if_pos ⟨rfl, rfl⟩, if_pos rfl]
theorem duties_x (c : Dev nD) (x : Msg × Bool) : (ringRd xa xb).duties (xCell c x) 0 = {false} := by
  dsimp only [ringRd]
  rw [if_pos ⟨rfl, rfl⟩, if_neg (x_ne_bar _), if_pos (show IsX (.dma (xSem x)) = true from decide_eq_true (unSem_x x).2)]
theorem duties_later (g : GSem nD τ sig) : ∀ r, 1 ≤ r → (ringRd xa xb).duties g r = ∅ :=
  fun r hr => by dsimp only [ringRd]; rw [if_neg fun h => by omega]

theorem amount_bar (c : Dev nD) (d : Bool) : (ringRd xa xb).amount (barCell c) 0 d = 1 := by dsimp only [ringRd]; exact if_pos rfl
theorem amount_x (c : Dev nD) (x : Msg × Bool) (d : Bool) : (ringRd xa xb).amount (xCell c x) 0 d = N := by
  dsimp only [ringRd]; exact if_neg (x_ne_bar _)

theorem duties_send (c : Dev nD) (μ : Msg) : (ringRd xa xb).duties (sendCell c μ) 0 = {false} := duties_x xa xb c (μ, false)
theorem duties_recv (c : Dev nD) (μ : Msg) : (ringRd xa xb).duties (recvCell c μ) 0 = {false} := duties_x xa xb c (μ, true)
theorem amount_send (c : Dev nD) (μ : Msg) (d : Bool) : (ringRd xa xb).amount (sendCell c μ) 0 d = N := amount_x xa xb c (μ, false) d
theorem amount_recv (c : Dev nD) (μ : Msg) (d : Bool) : (ringRd xa xb).amount (recvCell c μ) 0 d = N := amount_x xa xb c (μ, true) d

theorem expect_bar (c : Dev nD) : (ringRd xa xb).expect (barCell c) 0 = 2 := by
  unfold Schedule.expect Schedule.amountOf
  rw [duties_bar, Finset.sum_congr rfl fun d _ => amount_bar xa xb c d, Finset.sum_const, Finset.card_univ, Fintype.card_bool, smul_eq_mul]
theorem expect_x (c : Dev nD) (x : Msg × Bool) : (ringRd xa xb).expect (xCell c x) 0 = N := by
  unfold Schedule.expect Schedule.amountOf; rw [duties_x, Finset.sum_singleton, amount_x]

theorem payload_bar (c : Dev nD) (d : Bool) : (ringRd xa xb).payload (barCell c) 0 d = barPay c d := rfl
theorem payload_send (c : Dev nD) (μ : Msg) (d : Bool) : (ringRd xa xb).payload (sendCell c μ) 0 d = sendPay xa xb c μ := by
  have h := (unSem_x (μ, false)).1
  rw [x_send] at h
  show (if (unSem (sendSem μ)).2 then recvPay xa xb c (unSem (sendSem μ)).1 else sendPay xa xb c (unSem (sendSem μ)).1) = _
  rw [h]; rfl
theorem payload_recv (c : Dev nD) (μ : Msg) (d : Bool) : (ringRd xa xb).payload (recvCell c μ) 0 d = recvPay xa xb c μ := by
  have h := (unSem_x (μ, true)).1
  rw [x_recv] at h
  show (if (unSem (recvSem μ)).2 then recvPay xa xb c (unSem (recvSem μ)).1 else sendPay xa xb c (unSem (recvSem μ)).1) = _
  rw [h]; rfl

theorem bigSep_bool (Φ : Bool → sProp 𝕄) : bigSep Finset.univ Φ = iprop(Φ false ∗ Φ true) :=
  bigSep_univ_eq_bigSepL [false, true] (by decide) (by decide) Φ

/-- The whole round of a barrier cell; -/
theorem rest_bar (c : Dev nD) : bigSep ((ringRd xa xb).duties (barCell c) 0 \ ∅) (fun d => (ringRd xa xb).payload (barCell c) 0 d)
    = iprop(barPay c false ∗ barPay (F := F) c true) := by
  rw [Finset.sdiff_empty, duties_bar, bigSep_bool]; rfl
/-- of a send cell; -/
theorem rest_send (c : Dev nD) (μ : Msg) : bigSep ((ringRd xa xb).duties (sendCell c μ) 0 \ ∅) (fun d => (ringRd xa xb).payload (sendCell c μ) 0 d) = sendPay xa xb c μ := by
  rw [Finset.sdiff_empty, duties_send, bigSep_singleton]
  exact payload_send xa xb c μ false
/-- of a receive cell. -/
theorem rest_recv (c : Dev nD) (μ : Msg) : bigSep ((ringRd xa xb).duties (recvCell c μ) 0 \ ∅) (fun d => (ringRd xa xb).payload (recvCell c μ) 0 d) = recvPay xa xb c μ := by
  rw [Finset.sdiff_empty, duties_recv, bigSep_singleton]
  exact payload_recv xa xb c μ false

end Contents

/-! ## What a device owes; the levels -/

/-- What device `c` owes when the messages of the list are still to be sent: each one's credit, to its receiver. -/
def sumL (c : Dev nD) : List Msg → CellTallies nD τ sig Unit
  | [] => 0
  | ν :: l => sumL c l + tallyAt (recvCell (dstDev ν.1 c) ν) () N

/-- A message's level: a wait for it is for a message of a lower level than all still to be sent. -/
def levM (μ : Msg) : ℕ := (if μ.2.1 then 5 else 2) + stepOf μ

/-- The cells' levels: the staging and send cells 0, the barrier 1, the receive cells by step. -/
def levS : SemLoc sig → ℕ
  | .dma q => if q.val < 3 then 0 else if (unSem q).2 then levM (unSem q).1 else 0
  | _ => 1

/-- The tallies' indices. -/
def L (g : GSem nD τ sig) : Finset Unit := if g.1.2 = .tc then {()} else ∅
/-- The levels, by cell. -/
def lv (g : GSem nD τ sig) (_ : Unit) : ℕ := levS g.2

theorem L_of_ne (g : GSem nD τ sig) (h : g.1.2 ≠ .tc) : L g = ∅ := if_neg h
theorem L_tc (c : Dev nD) (sm : SemLoc sig) : L ((c : Thread nD τ), sm) = {()} := if_pos rfl

theorem lev_recv : ∀ μ : Msg, levS (.dma (recvSem μ)) = levM μ := by decide +kernel
theorem lev_send : ∀ μ : Msg, levS (.dma (sendSem μ)) = 0 := by decide +kernel
theorem levM_pos : ∀ μ : Msg, 1 < levM μ := by decide

theorem sumL_pos {c : Dev nD} {l : List Msg} {g : GSem nD τ sig} {u : Unit} (h : 0 < sumL c l g u) :
    ∃ ν ∈ l, g = recvCell (dstDev ν.1 c) ν := by
  induction l with
  | nil => exact absurd h (Nat.lt_irrefl 0)
  | cons ν l ih =>
    rw [sumL, Pi.add_apply, Finsupp.add_apply, tallyAt_apply] at h
    by_cases h' : g = recvCell (dstDev ν.1 c) ν ∧ u = ()
    · exact ⟨ν, List.mem_cons_self, h'.1⟩
    · rw [if_neg h', Nat.add_zero] at h
      obtain ⟨ν', hm, hg⟩ := ih h
      exact ⟨ν', List.mem_cons_of_mem _ hm, hg⟩

/-- A wait on a cell of a lower level than every message still to be sent. -/
theorem mayWait_sumL (c : Dev nD) (sm : SemLoc sig) (l : List Msg) (h : ∀ ν ∈ l, levS sm < levM ν) :
    (levAts L lv : sProp 𝕄) ⊢ MayWait (c : Thread nD τ) sm () (sumL c l) :=
  MayOwe.of_cut (L := L) (lev := lv) (levS sm)
    (fun p hp => by rw [Finset.mem_singleton.mp hp, L_tc]; exact Finset.mem_singleton_self _)
    (fun g u hg => by obtain ⟨ν, -, rfl⟩ := sumL_pos hg; exact Finset.mem_singleton_self _)
    (fun p hp => by rw [Finset.mem_singleton.mp hp]; exact Nat.le_refl _)
    (fun g u hg => by
      obtain ⟨ν, hν, rfl⟩ := sumL_pos hg
      show levS sm < levS (.dma (recvSem ν))
      rw [lev_recv]
      exact h ν hν)

end Cert.KernelIdeal.Ring

end
-- ==== Proof.KI.Steps.lean ====
/-
# The communicating steps

A send, and the two waits, against the cells of the protocol.
-/
module

public import proofs.«01_k».proof.Proof.KI.Base

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → (cc0_stg0_0 : Ref sig .tc).ty.Contents (Elt F)) (xb : Dev nD → (cc0_stg1_0 : Ref sig .tc).ty.Contents (Elt F))

/-- A device's cells: its barrier's, and each message's two. -/
abbrev CIx := Unit ⊕ (Msg × Bool)
/-- A cell's semaphore. -/
abbrev csem : CIx → SemLoc sig
  | .inl _ => .reg barS
  | .inr x => .dma (xSem x)
/-- A cell. -/
abbrev kcell (ck : Dev nD × CIx) : GSem nD τ sig := ((ck.1 : Thread nD τ), csem ck.2)

/-- What every device knows of every cell: its invariant, and that its round is open. -/
def records (K : Dev nD × CIx → ℕ) : sProp 𝕄 :=
  iprop((bigSep Finset.univ fun ck : Dev nD × CIx => cellInv ER (ringRd xa xb) (K ck) (kcell ck))
    ∗ bigSep Finset.univ fun ck : Dev nD × CIx => reached ER (kcell ck) 0)

instance records_persistent (K : Dev nD × CIx → ℕ) : BI.Persistent (records xa xb K) := by unfold records; infer_instance

variable (K : Dev nD × CIx → ℕ)

theorem inv_at (ck : Dev nD × CIx) : records xa xb K ⊢ cellInv ER (ringRd xa xb) (K ck) (kcell ck) := by
  have h : (bigSep Finset.univ fun ck : Dev nD × CIx => (cellInv ER (ringRd xa xb) (K ck) (kcell ck) : sProp 𝕄)) ⊢ cellInv ER (ringRd xa xb) (K ck) (kcell ck) :=
    bigSep_elim (Finset.mem_univ ck)
  unfold records
  iintro ⟨#HI, -⟩
  iapply h; iexact HI
theorem reached_at (ck : Dev nD × CIx) : records xa xb K ⊢ reached ER (kcell ck) 0 := by
  have h : (bigSep Finset.univ fun ck : Dev nD × CIx => (reached ER (kcell ck) 0 : sProp 𝕄)) ⊢ reached ER (kcell ck) 0 :=
    bigSep_elim (Finset.mem_univ ck)
  unfold records
  iintro ⟨-, #HR⟩
  iapply h; iexact HR

/-- A send cell's record; -/
theorem inv_send (c : Dev nD) (μ : Msg) : records xa xb K ⊢ cellInv ER (ringRd xa xb) (K (c, .inr (μ, false))) (sendCell c μ) := inv_at xa xb K (c, .inr (μ, false))
/-- a receive cell's. -/
theorem inv_recv (c : Dev nD) (μ : Msg) : records xa xb K ⊢ cellInv ER (ringRd xa xb) (K (c, .inr (μ, true))) (recvCell c μ) := inv_at xa xb K (c, .inr (μ, true))
theorem reached_send (c : Dev nD) (μ : Msg) : records xa xb K ⊢ reached ER (sendCell c μ) 0 := reached_at xa xb K (c, .inr (μ, false))
theorem reached_recv (c : Dev nD) (μ : Msg) : records xa xb K ⊢ reached ER (recvCell c μ) 0 := reached_at xa xb K (c, .inr (μ, true))

/-- The share of its source a message takes along. -/
abbrev shr (μ : Msg) : PosShare TreeShare := if fwd μ then fullShare.right else fullShare

/-- A transfer between two memrefs on two cells of one round each, the receiver's named `n`: at the source's contents, the
    two payloads made. -/
theorem wp_xfer (c n d : Dev nD) (hn : n = d) (s t : Memref sig .tc .vmem S512x512 .bf16) (qs qr : DmaSem sig) (q : PosShare TreeShare) (X : Vec F S512x512 .bf16)
    (κ₁ κ₂ : ℕ) (hN : t.view.dmaCredit = N)
    (hd₁ : (ringRd xa xb).duties ((c : Thread nD τ), .dma qs) 0 = {false}) (hd₂ : (ringRd xa xb).duties ((d : Thread nD τ), .dma qr) 0 = {false})
    (hk₁ : (ringRd xa xb).amount ((c : Thread nD τ), .dma qs) 0 false = N) (hk₂ : (ringRd xa xb).amount ((d : Thread nD τ), .dma qr) 0 false = N)
    (hp₁ : (ringRd xa xb).payload ((c : Thread nD τ), .dma qs) 0 false = owns (c : Thread nD τ) s q X)
    (hp₂ : (ringRd xa xb).payload ((d : Thread nD τ), .dma qr) 0 false = owns (d : Thread nD τ) t fullShare X)
    {hsc} {h1} {h2} {h3} (O : CellTallies nD τ sig Unit) (W : Waits sig Unit) {α : Type} {k : PUnit → KProg F α} {Q : α → sProp 𝕄} :
    iprop(cellInv ER (ringRd xa xb) κ₁ ((c : Thread nD τ), .dma qs) ∗ cellInv ER (ringRd xa xb) κ₂ ((d : Thread nD τ), .dma qr)
        ∗ owns (c : Thread nD τ) s q X ∗ (∃ Y, owns (d : Thread nD τ) t fullShare Y)
        ∗ owes (c : Thread nD τ) (O + tallyAt ((d : Thread nD τ), .dma qr) () N) W
        ∗ dutyTok ER ((c : Thread nD τ), .dma qs) 0 false ∗ reached ER ((c : Thread nD τ), .dma qs) 0
        ∗ dutyTok ER ((d : Thread nD τ), .dma qr) 0 false ∗ reached ER ((d : Thread nD τ), .dma qr) 0)
      ⊢ iprop(((cred (tallyAt ((c : Thread nD τ), .dma qs) () N) ∗ owes (c : Thread nD τ) O W) -∗ wpc c (k ⟨⟩) Q)
          -∗ wpc c (.op (.enqueueDma s (.remote (Dev.tc n) t (.dma qs) hsc) (.dma qr) h1 h2 h3) k) Q) := by
  subst hn
  unfold owns at hp₁ hp₂
  unfold owns
  iintro ⟨#HI, #HI', ⟨%fs, %hfs, Hs⟩, ⟨%Y, %fd, %hfd, Hd⟩, Ho, Ht, #HR, Ht', #HR'⟩ Hk
  iapply (Rounds.wp_send_pointsTo 𝒱₀ ER (ringRd xa xb) (c : Thread nD τ) none (κ₁ := κ₁) (κ₂ := κ₂)
    (r₁ := 0) (r₂ := 0) (d₁ := false) (d₂ := false) (fd := fd) (fs := fs)
    (by rw [hd₁]; exact Finset.mem_singleton_self _) (by rw [hd₂]; exact Finset.mem_singleton_self _)
    () () N (show t.view.amount (.dma qr) = N from hN) hk₁ hk₂ O rfl (W := W)
    (by
      rw [hp₁]
      iintro H; iexists fs; isplitr; · (ipureintro; exact hfs)
      iexact H)
    (by
      rw [hp₂]
      iintro H; iexists (t.view.write (Elt F) fd (s.view.read (Elt F) fs) Finset.univ); isplitr
      · ipureintro; rw [View.read_write_univ]; exact hfs
      iexact H)) $$ [Hs Hd Ho Ht Ht']
  · isplitr; · iexact HI
    isplitr; · iexact HI'
    isplitl [Hs]; · iexact Hs
    isplitl [Hd]; · iexact Hd
    isplitl [Ho]; · iexact Ho
    isplitl [Ht]; · iexact Ht
    isplitr; · iexact HR
    isplitl [Ht']; · iexact Ht'
    iexact HR'
  iexact Hk

/-- The payload of a receive cell at its sender's message. -/
theorem payload_recv' (c : Dev nD) (μ : Msg) :
    (ringRd xa xb).payload (recvCell (dstDev μ.1 c) μ) 0 false = owns (dstDev μ.1 c : Thread nD τ) (dstM μ) fullShare (val xa xb c μ) := by
  rw [payload_recv]; unfold recvPay; rw [src_dst]

/-- A send step. -/
theorem wp_sendM (c : Dev nD) (μ : Msg) (l : List Msg) (W : Waits sig Unit) (Q : PUnit → sProp 𝕄) :
    iprop(records xa xb K ∗ owns (c : Thread nD τ) (srcM μ) (shr μ) (val xa xb c μ) ∗ land (F := F) (dstDev μ.1 c) μ
        ∗ owes (c : Thread nD τ) (sumL c (μ :: l)) W ∗ dutyTok ER (sendCell c μ) 0 false ∗ dutyTok ER (recvCell (dstDev μ.1 c) μ) 0 false
        ∗ ((cred (tallyAt (sendCell c μ) () N) ∗ owes (c : Thread nD τ) (sumL c l) W) -∗ Q ⟨⟩))
      ⊢ wpc c (pSend c μ) Q := by
  unfold pSend
  simp only [Prog.lift]
  iintro ⟨#HR, Hs, Hd, Ho, Ht, Ht', Hk⟩
  unfold land
  iapply (wp_xfer xa xb c _ (dstDev μ.1 c) (devOf_eq c μ) (srcM μ) (dstM μ) (sendSem μ) (recvSem μ) (shr μ) (val xa xb c μ) (K (c, .inr (μ, false))) (K (dstDev μ.1 c, .inr (μ, true)))
    (credit_dst μ) (duties_send xa xb c μ) (duties_recv xa xb _ μ) (amount_send xa xb c μ false) (amount_recv xa xb _ μ false) (payload_send xa xb c μ false) (payload_recv' xa xb c μ)
    (sumL c l) W) $$ [Hs Hd Ho Ht Ht']
  · isplitr; · iapply (inv_send xa xb K c μ); iexact HR
    isplitr; · iapply (inv_recv xa xb K (dstDev μ.1 c) μ); iexact HR
    isplitl [Hs]; · iexact Hs
    isplitl [Hd]; · iexact Hd
    isplitl [Ho]; · iexact Ho
    isplitl [Ht]; · iexact Ht
    isplitr; · iapply (reached_send xa xb K c μ); iexact HR
    isplitl [Ht']; · iexact Ht'
    iapply (reached_recv xa xb K (dstDev μ.1 c) μ); iexact HR
  iintro H
  iapply (wpc_ret c)
  iapply Hk
  iexact H

/-- A receiving step: the wait for a message of a lower level than all still to be sent. -/
theorem wp_recvM (c : Dev nD) (μ : Msg) (l : List Msg) (hl : ∀ ν ∈ l, levM μ < levM ν) (W : Waits sig Unit) (Q : PUnit → sProp 𝕄) :
    iprop(records xa xb K ∗ levAts L lv ∗ owes (c : Thread nD τ) (sumL c l) W ∗ cred (tallyAt (recvCell c μ) () N) ∗ atPos ER (recvCell c μ) 0 ∅ 0
        ∗ ((owes (c : Thread nD τ) (sumL c l) (insert (SemLoc.dma (recvSem μ), ()) W) ∗ semVal (recvCell c μ) 0 ∗ recvPay xa xb c μ) -∗ Q ⟨⟩))
      ⊢ wpc c (pRecv μ) Q := by
  unfold pRecv
  simp only [Prog.lift]
  iintro ⟨#HR, #Hlev, Ho, Hc, Hat, Hk⟩
  have he := expect_x xa xb c (μ, true)
  iapply (Rounds.wp_wait_rest_token 𝒱₀ ER (ringRd xa xb) (c : Thread nD τ) none (κ := K (c, .inr (μ, true)))
      (wpE_waitDma2_eq 𝒱₀ (c : Thread nD τ) none Set.univ) (Set.mem_univ _) () (O := sumL c l) (W := W) (R := 0) (m := 0) (T := ∅)
      (by rw [Nat.zero_add, credit_dst]; exact he.symm)) $$ [Ho Hc Hat]
  · isplitr; · iapply (inv_recv xa xb K c μ); iexact HR
    isplitl [Hc]; · rw [credit_dst]; iexact Hc
    isplitl [Ho]; · iexact Ho
    isplitr
    · iapply (mayWait_sumL c (.dma (recvSem μ)) l (fun ν hν => by rw [lev_recv]; exact hl ν hν)); iexact Hlev
    iexact Hat
  iintro ⟨Ho, Hat, -, Hpay⟩
  ihave Hp := (Entails.of_eq (rest_recv xa xb c μ)) $$ Hpay
  rw [wp_ret]
  imod (Rounds.cell_close ER (ringRd xa xb) (Set.mem_univ (K (c, .inr (μ, true)))) (fun h => h) (R := 0 + 1) (duties_later xa xb (recvCell c μ))) $$ [Hat] with Hz
  · isplitr; · iapply (inv_recv xa xb K c μ); iexact HR
    iexact Hat
  imodintro
  iapply Hk
  isplitl [Ho]; · iexact Ho
  isplitl [Hz]; · iexact Hz
  iexact Hp

/-- The wait for a message's departure, nothing more to be sent. -/
theorem wp_leftM (c : Dev nD) (μ : Msg) (W : Waits sig Unit) (Q : PUnit → sProp 𝕄) :
    iprop(records xa xb K ∗ owes (c : Thread nD τ) (sumL c []) W ∗ cred (tallyAt (sendCell c μ) () N) ∗ atPos ER (sendCell c μ) 0 ∅ 0
        ∗ ((owes (c : Thread nD τ) (sumL c []) (insert (SemLoc.dma (sendSem μ), ()) W) ∗ semVal (sendCell c μ) 0 ∗ sendPay xa xb c μ) -∗ Q ⟨⟩))
      ⊢ wpc c (pLeft μ) Q := by
  unfold pLeft
  simp only [Prog.lift]
  iintro ⟨#HR, Ho, Hc, Hat, Hk⟩
  have he := expect_x xa xb c (μ, false)
  iapply (Rounds.wp_wait_rest_token 𝒱₀ ER (ringRd xa xb) (c : Thread nD τ) none (κ := K (c, .inr (μ, false)))
      (wpE_waitDma2_eq 𝒱₀ (c : Thread nD τ) none Set.univ) (Set.mem_univ _) () (O := sumL c []) (W := W) (R := 0) (m := 0) (T := ∅)
      (by rw [Nat.zero_add, credit_src]; exact he.symm)) $$ [Ho Hc Hat]
  · isplitr; · iapply (inv_send xa xb K c μ); iexact HR
    isplitl [Hc]; · rw [credit_src]; iexact Hc
    isplitl [Ho]; · iexact Ho
    isplitr; · rw [show sumL c [] = 0 from rfl, MayWait_zero]; iempintro
    iexact Hat
  iintro ⟨Ho, Hat, -, Hpay⟩
  ihave Hp := (Entails.of_eq (rest_send xa xb c μ)) $$ Hpay
  rw [wp_ret]
  imod (Rounds.cell_close ER (ringRd xa xb) (Set.mem_univ (K (c, .inr (μ, false)))) (fun h => h) (R := 0 + 1) (duties_later xa xb (sendCell c μ))) $$ [Hat] with Hz
  · isplitr; · iapply (inv_send xa xb K c μ); iexact HR
    iexact Hat
  imodintro
  iapply Hk
  isplitl [Ho]; · iexact Ho
  isplitl [Hz]; · iexact Hz
  iexact Hp

/-- The handshake: the own landing slots go to the two senders, the landing slots sent to come from their owners. -/
theorem wp_barM (c : Dev nD) (l : List Msg) (W : Waits sig Unit) (Q : PUnit → sProp 𝕄) :
    iprop(records xa xb K ∗ levAts L lv ∗ owes (c : Thread nD τ) (sumL c l + tallyAt (barCell (dstDev false c)) () 1 + tallyAt (barCell (dstDev true c)) () 1) W
        ∗ dutyTok ER (barCell (dstDev true c)) 0 false ∗ dutyTok ER (barCell (dstDev false c)) 0 true
        ∗ (bigSep Finset.univ fun p : Bool × Fin 6 => land (F := F) c (false, p)) ∗ (bigSep Finset.univ fun p : Bool × Fin 6 => land (F := F) c (true, p))
        ∗ cred (tallyAt (barCell c) () 2) ∗ atPos ER (barCell c) 0 ∅ 0
        ∗ ((owes (c : Thread nD τ) (sumL c l) (insert (SemLoc.reg barS, ()) W) ∗ semVal (barCell c) 0 ∗ barPay (F := F) c false ∗ barPay (F := F) c true) -∗ Q ⟨⟩))
      ⊢ wpc c (pBar c) Q := by
  unfold pBar
  simp only [semSignalWord, semWaitWord, Prog.lift, Prog.bind_op, Prog.bind_ret]
  iintro ⟨#HR, #Hlev, Ho, HtP, HtN, HlF, HlT, Hc, Hat, Hk⟩
  simp only [dev1_eq c, dev2_eq c]
  have e1 : dstDev false (dstDev true c) = c := src_dst true c
  have e2 : dstDev true (dstDev false c) = c := src_dst false c
  iapply (Rounds.wp_signal 𝒱₀ ER (ringRd xa xb) (c : Thread nD τ) none (dst := (dstDev true c : Thread nD τ)) (κ := K (dstDev true c, .inl ()))
      (d := false) (by rw [duties_bar]; exact Finset.mem_univ _) ((amount_bar xa xb (dstDev true c) false).trans (by decide)) ()
      (sumL c l + tallyAt (barCell (dstDev false c)) () 1) rfl) $$ [Ho HtP HlF]
  · isplitr; · iapply (inv_at xa xb K (dstDev true c, .inl ())); iexact HR
    isplitl [Ho]; · iexact Ho
    isplitl [HtP]; · iexact HtP
    isplitl [HlF]; · rw [payload_bar]; unfold barPay; rw [e1]; iexact HlF
    iapply (reached_at xa xb K (dstDev true c, .inl ())); iexact HR
  iintro Ho
  iapply (Rounds.wp_signal 𝒱₀ ER (ringRd xa xb) (c : Thread nD τ) none (dst := (dstDev false c : Thread nD τ)) (κ := K (dstDev false c, .inl ()))
      (d := true) (by rw [duties_bar]; exact Finset.mem_univ _) ((amount_bar xa xb (dstDev false c) true).trans (by decide)) ()
      (sumL c l) rfl) $$ [Ho HtN HlT]
  · isplitr; · iapply (inv_at xa xb K (dstDev false c, .inl ())); iexact HR
    isplitl [Ho]; · iexact Ho
    isplitl [HtN]; · iexact HtN
    isplitl [HlT]; · rw [payload_bar]; unfold barPay; rw [e2]; iexact HlT
    iapply (reached_at xa xb K (dstDev false c, .inl ())); iexact HR
  iintro Ho
  iapply (Rounds.wp_wait_rest_token 𝒱₀ ER (ringRd xa xb) (c : Thread nD τ) none (κ := K (c, .inl ()))
      (wpE_semWait_eq 𝒱₀ (c : Thread nD τ) none Set.univ) (Set.mem_univ _) () (O := sumL c l) (W := W) (R := 0) (m := 0) (T := ∅)
      (by rw [expect_bar]; decide)) $$ [Ho Hc Hat]
  · isplitr; · iapply (inv_at xa xb K (c, .inl ())); iexact HR
    isplitl [Hc]; · iexact Hc
    isplitl [Ho]; · iexact Ho
    isplitr; · iapply (mayWait_sumL c (.reg barS) l (fun ν _ => levM_pos ν)); iexact Hlev
    iexact Hat
  iintro ⟨Ho, Hat, -, Hpay⟩
  ihave Hp := (Entails.of_eq (rest_bar xa xb c)) $$ Hpay
  rw [wp_ret]
  imod (Rounds.cell_close ER (ringRd xa xb) (Set.mem_univ (K (c, .inl ()))) (fun h => h) (R := 0 + 1) (duties_later xa xb (barCell c))) $$ [Hat] with Hz
  · isplitr; · iapply (inv_at xa xb K (c, .inl ())); iexact HR
    iexact Hat
  imodintro
  iapply Hk
  isplitl [Ho]; · iexact Ho
  isplitl [Hz]; · iexact Hz
  iexact Hp

end Cert.KernelIdeal.Ring

end
-- ==== Proof.KI.Run.lean ====
/-
# The body's steps, checked

What a device holds between two steps is described by a few tables: how far each output tile is, how far each message
it sends is, how far each message it receives is, and which messages are still to be sent. A step is allowed when the
tables allow it, and turns them (`step`); an allowed step is proved (`wp_op`), so a sequence of allowed steps is
(`wp_prog`), and that a given sequence is allowed is computed.
-/
module

public import proofs.«01_k».proof.Proof.KI.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → (cc0_stg0_0 : Ref sig .tc).ty.Contents (Elt F)) (xb : Dev nD → (cc0_stg1_0 : Ref sig .tc).ty.Contents (Elt F))

/-- A step of the body. -/
inductive Op where
  | dot (r : Fin 4)
  | stage (l : Bool) (s : Fin 3) (u : Fin 2)
  | stageG (l : Bool) (u : Fin 2)
  | send (μ : Msg)
  | recv (μ : Msg)
  | add (l : Bool) (s : Fin 3) (u : Fin 2)
  | ext (l : Bool) (s : Fin 3) (u : Fin 2)
  | left (μ : Msg)

/-- A step's program on device `d`. -/
def interp (d : Dev nD) : Op → KProg F PUnit
  | .dot r => pDot d r
  | .stage l s u => pStage exact6 (rsS l) (rsS_whole l) (ix s u) (offT d l u s.castSucc) (offT_inb d l u s.castSucc)
  | .stageG l u => pStage exact2 (agS l) (agS_whole l) u (offF d l u) (offF_inb d l u)
  | .send μ => pSend d μ
  | .recv μ => pRecv μ
  | .add l s u => pAcc (rsR l) (ix s u) (offT d l u s.succ) (offT_inb d l u s.succ)
  | .ext l s u => pExt (agR l) (ix s u) (offT d l u s.castSucc) (offT_inb d l u s.castSucc)
  | .left μ => pLeft μ

/-- The program of a sequence of steps. -/
def prog (d : Dev nD) : List Op → KProg F PUnit
  | [] => pure ⟨⟩
  | o :: l => interp d o >>= fun _ => prog d l

/-- The tables. -/
structure Sg where
  out : Tl → ℕ
  snd : Msg → ℕ
  rcv : Msg → ℕ
  owe : List Msg

/-- The landed message a passed-on message is. -/
def prevM (μ : Msg) : Msg := (μ.1, μ.2.1, ⟨μ.2.2.val - 2, by omega⟩)

/-- The tables after a step, if they allow it. -/
def step (σ : Sg) : Op → Option Sg
  | .dot r => some { σ with out := fun t => if chunkOf t = r then 1 else σ.out t }
  | .stage l s u =>
    if σ.snd (l, false, ix s u) = 0 ∧ (σ.out (l, u, s.castSucc) = 2 ∨ (σ.out (l, u, s.castSucc) = 1 ∧ s = 0)) then
      some { σ with snd := Function.update σ.snd (l, false, ix s u) 1 }
    else none
  | .stageG l u =>
    if σ.snd (l, true, ix 0 u) = 0 ∧ σ.out (l, u, 3) = 2 then some { σ with snd := Function.update σ.snd (l, true, ix 0 u) 1 } else none
  | .send μ =>
    match σ.owe with
    | [] => none
    | ν :: l =>
      if fwd μ = true then
        if ν = μ ∧ σ.snd μ = 0 ∧ σ.rcv (prevM μ) = 1 then
          some { σ with snd := Function.update σ.snd μ 2, rcv := Function.update σ.rcv (prevM μ) 2, owe := l }
        else none
      else if ν = μ ∧ σ.snd μ = 1 then some { σ with snd := Function.update σ.snd μ 2, owe := l } else none
  | .recv μ => if σ.rcv μ = 0 ∧ ∀ ν ∈ σ.owe, levM μ < levM ν then some { σ with rcv := Function.update σ.rcv μ 1 } else none
  | .add l s u =>
    if σ.rcv (l, false, ix s u) = 1 ∧ σ.out (l, u, s.succ) = 1 then some { σ with out := Function.update σ.out (l, u, s.succ) 2 } else none
  | .ext l s u =>
    if σ.rcv (l, true, ix s u) = 1 ∨ σ.rcv (l, true, ix s u) = 2 then some { σ with out := Function.update σ.out (l, u, s.castSucc) 3 } else none
  | .left μ => if σ.owe = [] ∧ σ.snd μ = 2 then some { σ with snd := Function.update σ.snd μ 3 } else none

/-- The tables after a sequence of steps, if they allow it. -/
def steps (σ : Sg) : List Op → Option Sg
  | [] => some σ
  | o :: l => (step σ o).bind fun σ' => steps σ' l

/-! ## What the tables stand for -/

/-- What a device needs to send a message, beside its source. -/
def toks (c : Dev nD) (μ : Msg) : sProp 𝕄 :=
  iprop(dutyTok ER (sendCell c μ) 0 false ∗ dutyTok ER (recvCell (dstDev μ.1 c) μ) 0 false ∗ atPos ER (sendCell c μ) 0 ∅ 0)

/-- A message to send: not staged, staged, sent, left. -/
def sendRes (c : Dev nD) (μ : Msg) : ℕ → sProp 𝕄
  | 0 => iprop(toks c μ ∗ land (F := F) (dstDev μ.1 c) μ ∗ (if fwd μ then iprop(emp) else iprop(∃ X, owns (c : Thread nD τ) (srcM μ) fullShare X)))
  | 1 => iprop(toks c μ ∗ land (F := F) (dstDev μ.1 c) μ ∗ (if fwd μ then iprop(emp) else owns (c : Thread nD τ) (srcM μ) fullShare (val xa xb c μ)))
  | 2 => iprop(atPos ER (sendCell c μ) 0 ∅ 0 ∗ cred (tallyAt (sendCell c μ) () N))
  | _ => iprop(semVal (sendCell c μ) 0 ∗ sendPay xa xb c μ)

/-- A message to receive: expected, landed, landed and passed on. -/
def recvRes (c : Dev nD) (μ : Msg) : ℕ → sProp 𝕄
  | 0 => iprop(cred (tallyAt (recvCell c μ) () N) ∗ atPos ER (recvCell c μ) 0 ∅ 0)
  | 1 => iprop(semVal (recvCell c μ) 0 ∗ owns (c : Thread nD τ) (dstM μ) fullShare (val xa xb (srcDev μ.1 c) μ))
  | _ => iprop(semVal (recvCell c μ) 0 ∗ owns (c : Thread nD τ) (dstM μ) fullShare.left (val xa xb (srcDev μ.1 c) μ))

/-- The operands, the output, the messages and the debts, as the tables say. -/
def St (c : Dev nD) (σ : Sg) : sProp 𝕄 :=
  iprop(bufP c cc0_stg0_0 (xa c) ∗ bufP c cc0_stg1_0 (xb c) ∗ bufP c cc0_scratch0 (vCopy (xb c))
    ∗ (∃ f, ⌜OutOK xa xb c σ.out f⌝ ∗ bufP c cc0_stg2_0 f)
    ∗ (bigSep Finset.univ fun μ => sendRes xa xb c μ (σ.snd μ))
    ∗ (bigSep Finset.univ fun μ => recvRes xa xb c μ (σ.rcv μ))
    ∗ (∃ W, owes (c : Thread nD τ) (sumL c σ.owe) W))

/-! ## Facts about messages -/

theorem ent {P Q : sProp 𝕄} (h : P = Q) : P ⊢ Q := h ▸ BIBase.Entails.rfl

theorem fwd_src : ∀ μ : Msg, fwd μ = true → srcM μ = dstM (prevM μ)
  | (l, false, i), h => by simp [fwd] at h
  | (l, true, 0), h => by simp [fwd] at h
  | (l, true, 1), h => by simp [fwd] at h
  | (l, true, 2), _ => rfl
  | (l, true, 3), _ => rfl
  | (l, true, 4), _ => rfl
  | (l, true, 5), _ => rfl

theorem ix_step : ∀ (s : Fin 3) (u : Fin 2), (ix s u).val / 2 = s.val := by decide
theorem ix_sub : ∀ (s : Fin 3) (u : Fin 2), (⟨(ix s u).val % 2, Nat.mod_lt _ (by decide)⟩ : Fin 2) = u := by decide

/-- A reduce-scatter message's value; -/
theorem val_rs (c : Dev nD) (l : Bool) (s : Fin 3) (u : Fin 2) : val xa xb c (l, false, ix s u) = rsVal xa xb l u s.val c := by
  show rsVal xa xb l (⟨(ix s u).val % 2, _⟩ : Fin 2) ((ix s u).val / 2) c = _
  rw [ix_step, ix_sub]
/-- an all-gather message's. -/
theorem val_ag (c : Dev nD) (l : Bool) (s : Fin 3) (u : Fin 2) : val xa xb c (l, true, ix s u) = agVal xa xb l u s.val c := by
  show agVal xa xb l (⟨(ix s u).val % 2, _⟩ : Fin 2) ((ix s u).val / 2) c = _
  rw [ix_step, ix_sub]

theorem fwd_val (c : Dev nD) : ∀ μ : Msg, fwd μ = true → val xa xb c μ = val xa xb (srcDev (prevM μ).1 c) (prevM μ)
  | (l, false, i), h => by simp [fwd] at h
  | (l, true, 0), h => by simp [fwd] at h
  | (l, true, 1), h => by simp [fwd] at h
  | (l, true, 2), _ => (val_ag xa xb c l 1 0).trans (val_ag xa xb (srcDev l c) l 0 0).symm
  | (l, true, 3), _ => (val_ag xa xb c l 1 1).trans (val_ag xa xb (srcDev l c) l 0 1).symm
  | (l, true, 4), _ => (val_ag xa xb c l 2 0).trans (val_ag xa xb (srcDev l c) l 1 0).symm
  | (l, true, 5), _ => (val_ag xa xb c l 2 1).trans (val_ag xa xb (srcDev l c) l 1 1).symm

theorem src_ag : ∀ (l : Bool) (u : Fin 2), srcM (l, true, ix 0 u) = slot (agS l) u
  | _, 0 => rfl
  | _, 1 => rfl

theorem fwd_rs (l : Bool) (i : Fin 6) : fwd (l, false, i) = false := rfl
theorem fwd_ag : ∀ (l : Bool) (u : Fin 2), fwd (l, true, ix 0 u) = false := by decide

theorem stage_congr {n : Nat} (he : Exact n) (b : BufN n) (hb : b.IsWhole) (i : Fin n) {off off' : Fin 2 → Nat} (e : off = off') (h : ∀ a, off a + S512x512.size a ≤ S2048x2048.size a)
    (h' : ∀ a, off' a + S512x512.size a ≤ S2048x2048.size a) : pStage (F := F) he b hb i off h = pStage he b hb i off' h' := by
  subst e; rfl

/-- A tile that is the partial sum of its step. -/
theorem ready (c : Dev nD) (t : Tl) (v : Vec F S512x512 .f32) (n : ℕ) (h : TileOK xa xb c t v n) (hn : n = 2 ∨ (n = 1 ∧ t.2.2 = 0)) :
    v = acc xa xb t.1 t.2.1 t.2.2.val c := by
  obtain ⟨l, u, k⟩ := t
  rcases hn with rfl | ⟨rfl, hk⟩
  · exact h
  · have hk : k = 0 := hk
    subst hk; exact h

/-- The output with one tile replaced. -/
theorem out_put (c : Dev nD) (o : Tl → ℕ) (f : OutC F) (t : Tl) (v : Vec F S512x512 .f32) (n : ℕ) (h : OutOK xa xb c o f) (hv : TileOK xa xb c t v n) :
    OutOK xa xb c (Function.update o t n) ((oM.access (tlR c t)).write (Elt F) f v Finset.univ) := fun t' => by
  by_cases e : t' = t
  · subst e; rw [Function.update_self, tile_put]; exact hv
  · rw [Function.update_of_ne e, tile_put_ne c t' t e]; exact h t'

/-- The output with one chunk replaced by the own product. -/
theorem out_dot (c : Dev nD) (o : Tl → ℕ) (f : OutC F) (r : Fin 4) (h : OutOK xa xb c o f) :
    OutOK xa xb c (fun t => if chunkOf t = r then 1 else o t)
      ((oM.access (oR c r)).write (Elt F) f (dotV c r (xa c) (vCopy (xb c))) Finset.univ) := fun t => by
  by_cases e : chunkOf t = r
  · subst e; dsimp only; rw [if_pos rfl, tile_dot]; rfl
  · simp only [if_neg e]; rw [tile_dot_ne c t r e]; exact h t

variable (K : Dev nD × CIx → ℕ)

/-- A message staged from a tile. -/
theorem wp_stageM (c : Dev nD) {n : Nat} (he : Exact n) (b : BufN n) (hb : b.IsWhole) (i : Fin n) (μ : Msg) (t : Tl) (σ : Sg)
    (hs : srcM μ = slot b i) (hf : fwd μ = false) (h0 : σ.snd μ = 0) (ht : σ.out t = 2 ∨ (σ.out t = 1 ∧ t.2.2 = 0))
    (hv : val xa xb c μ = sq (vStage (acc xa xb t.1 t.2.1 t.2.2.val c))) (Q : PUnit → sProp 𝕄) :
    iprop(St xa xb c σ ∗ (St xa xb c { σ with snd := Function.update σ.snd μ 1 } -∗ Q ⟨⟩))
      ⊢ wpc c (pStage he b hb i (offT c t.1 t.2.1 t.2.2) (offT_inb c t.1 t.2.1 t.2.2)) Q := by
  unfold St
  iintro ⟨⟨Ha, Hb, Hc, ⟨%f, %hfo, Hf⟩, Hsnd, Hrcv, Ho⟩, Hk⟩
  ihave H := (bigSep_univ_turn (fun μ s => sendRes xa xb c μ s) σ.snd μ) $$ Hsnd
  icases H with ⟨Hm, Hback⟩
  have e0 : sendRes xa xb c μ (σ.snd μ) = iprop(toks c μ ∗ land (F := F) (dstDev μ.1 c) μ ∗ ∃ X, owns (c : Thread nD τ) (slot b i) fullShare X) := by
    rw [h0]; unfold sendRes; rw [hf, hs]; rfl
  have e1 : sendRes xa xb c μ 1 = iprop(toks c μ ∗ land (F := F) (dstDev μ.1 c) μ ∗ owns (c : Thread nD τ) (slot b i) fullShare (val xa xb c μ)) := by
    unfold sendRes; rw [hf, hs]; rfl
  ihave Hm := (ent e0) $$ Hm
  icases Hm with ⟨Ht, Hl, ⟨%X, Hs⟩⟩
  iapply (wp_stage c he b hb i t f X Q)
  isplitl [Hf]; · iexact Hf
  isplitl [Hs]; · iexact Hs
  iintro ⟨Hf, Hs⟩
  iapply Hk
  isplitl [Ha]; · iexact Ha
  isplitl [Hb]; · iexact Hb
  isplitl [Hc]; · iexact Hc
  isplitl [Hf]
  · iexists f; isplitr; · (ipureintro; exact hfo)
    iexact Hf
  isplitr [Hrcv Ho]
  · iapply Hback
    rw [e1, hv, ← ready xa xb c t _ _ (hfo t) ht]
    isplitl [Ht]; · iexact Ht
    isplitl [Hl]; · iexact Hl
    iexact Hs
  isplitl [Hrcv]; · iexact Hrcv
  iexact Ho

set_option maxHeartbeats 2000000 in
/-- An allowed step. -/
theorem wp_op (c : Dev nD) (σ σ' : Sg) (o : Op) (h : step σ o = some σ') (Q : PUnit → sProp 𝕄) :
    iprop(records xa xb K ∗ levAts L lv ∗ St xa xb c σ ∗ (St xa xb c σ' -∗ Q ⟨⟩)) ⊢ wpc c (interp c o) Q := by
  cases o with
  | dot r =>
    obtain rfl := (Option.some.inj h).symm
    unfold St
    iintro ⟨#HR, #Hlev, ⟨Ha, Hb, Hc, ⟨%f, %hfo, Hf⟩, Hsnd, Hrcv, Ho⟩, Hk⟩
    iapply (wp_dot c r (xa c) (vCopy (xb c)) f Q)
    isplitl [Ha]; · iexact Ha
    isplitl [Hc]; · iexact Hc
    isplitl [Hf]; · iexact Hf
    iintro ⟨Ha, Hc, Hf⟩
    iapply Hk
    isplitl [Ha]; · iexact Ha
    isplitl [Hb]; · iexact Hb
    isplitl [Hc]; · iexact Hc
    isplitl [Hf]
    · iexists _; isplitr; · (ipureintro; exact out_dot xa xb c σ.out f r hfo)
      iexact Hf
    isplitl [Hsnd]; · iexact Hsnd
    isplitl [Hrcv]; · iexact Hrcv
    iexact Ho
  | stage l s u =>
    simp only [step] at h
    split at h
    · rename_i hc
      obtain rfl := (Option.some.inj h).symm
      iintro ⟨-, -, Hst⟩
      iapply (wp_stageM xa xb c exact6 (rsS l) (rsS_whole l) (ix s u) (l, false, ix s u) (l, u, s.castSucc) σ rfl rfl hc.1
        (hc.2.imp id fun h => ⟨h.1, by rw [h.2]; rfl⟩) (by rw [val_rs]; rfl) Q)
      iexact Hst
    · exact absurd h (by simp)
  | stageG l u =>
    simp only [step] at h
    split at h
    · rename_i hc
      obtain rfl := (Option.some.inj h).symm
      iintro ⟨-, -, Hst⟩
      show _ ⊢ wpc c (pStage exact2 (agS l) (agS_whole l) u (offF c l u) (offF_inb c l u)) Q
      rw [stage_congr exact2 (agS l) (agS_whole l) u (offF_eq c l u) (offF_inb c l u) (offT_inb c l u 3)]
      iapply (wp_stageM xa xb c exact2 (agS l) (agS_whole l) u (l, true, ix 0 u) (l, u, 3) σ (src_ag l u) (fwd_ag l u) hc.1
        (Or.inl hc.2) (by rw [val_ag]; rfl) Q)
    · exact absurd h (by simp)
  | send μ =>
    simp only [step] at h
    unfold St
    iintro ⟨#HR, #Hlev, ⟨Ha, Hb, Hc, Hf, Hsnd, Hrcv, ⟨%W, Ho⟩⟩, Hk⟩
    ihave H := (bigSep_univ_turn (fun μ s => sendRes xa xb c μ s) σ.snd μ) $$ Hsnd
    icases H with ⟨Hm, Hback⟩
    have e2 : sendRes xa xb c μ 2 = iprop(atPos ER (sendCell c μ) 0 ∅ 0 ∗ cred (tallyAt (sendCell c μ) () N)) := rfl
    cases hw : σ.owe with
    | nil => rw [hw] at h; exact absurd h (by simp)
    | cons ν l =>
      rw [hw] at h
      dsimp only at h
      split at h
      · rename_i hfw
        split at h
        · rename_i hc
          obtain ⟨rfl, h0, h1⟩ := hc
          obtain rfl := (Option.some.inj h).symm
          ihave H := (bigSep_univ_turn (fun μ s => recvRes xa xb c μ s) σ.rcv (prevM ν)) $$ Hrcv
          icases H with ⟨Hr, Hrback⟩
          have e0 : sendRes xa xb c ν (σ.snd ν) = iprop(toks c ν ∗ land (F := F) (dstDev ν.1 c) ν ∗ emp) := by
            rw [h0]; unfold sendRes; rw [hfw]; rfl
          have eh : (owns (c : Thread nD τ) (dstM (prevM ν)) fullShare (val xa xb (srcDev (prevM ν).1 c) (prevM ν)) : sProp 𝕄)
              ⊢ iprop(owns (c : Thread nD τ) (dstM (prevM ν)) fullShare.left (val xa xb (srcDev (prevM ν).1 c) (prevM ν))
                ∗ owns (c : Thread nD τ) (srcM ν) (shr ν) (val xa xb c ν)) := by
            have hs : shr ν = fullShare.right := by unfold shr; rw [hfw]; rfl
            rw [hs, fwd_src ν hfw, fwd_val xa xb c ν hfw]
            exact (owns_halves _ _ _ _).1
          have r1 : recvRes xa xb c (prevM ν) (σ.rcv (prevM ν)) = iprop(semVal (recvCell c (prevM ν)) 0 ∗ owns (c : Thread nD τ) (dstM (prevM ν)) fullShare (val xa xb (srcDev (prevM ν).1 c) (prevM ν))) := by rw [h1]; rfl
          have r2 : recvRes xa xb c (prevM ν) 2 = iprop(semVal (recvCell c (prevM ν)) 0 ∗ owns (c : Thread nD τ) (dstM (prevM ν)) fullShare.left (val xa xb (srcDev (prevM ν).1 c) (prevM ν))) := rfl
          ihave Hm := (ent e0) $$ Hm
          ihave Hr := (ent r1) $$ Hr
          unfold toks
          icases Hm with ⟨⟨Ht, Ht', Hat⟩, Hl, -⟩
          icases Hr with ⟨Hz, Hr⟩
          ihave H2 := eh $$ Hr
          icases H2 with ⟨Hr, Hs⟩
          iapply (wp_sendM xa xb K c ν l W Q)
          isplitr; · iexact HR
          isplitl [Hs]; · iexact Hs
          isplitl [Hl]; · iexact Hl
          isplitl [Ho]; · iexact Ho
          isplitl [Ht]; · iexact Ht
          isplitl [Ht']; · iexact Ht'
          iintro ⟨Hcr, Ho⟩
          iapply Hk
          isplitl [Ha]; · iexact Ha
          isplitl [Hb]; · iexact Hb
          isplitl [Hc]; · iexact Hc
          isplitl [Hf]; · iexact Hf
          isplitl [Hback Hat Hcr]
          · iapply Hback
            rw [e2]
            isplitl [Hat]; · iexact Hat
            iexact Hcr
          isplitl [Hrback Hz Hr]
          · iapply Hrback
            rw [r2]
            isplitl [Hz]; · iexact Hz
            iexact Hr
          iexists W; iexact Ho
        · exact absurd h (by simp)
      · rename_i hfw
        have hfw : fwd ν = fwd ν := rfl
        split at h
        · rename_i hn hc
          obtain ⟨rfl, h1⟩ := hc
          obtain rfl := (Option.some.inj h).symm
          have hn : fwd ν = false := by simpa using hn
          have e1 : sendRes xa xb c ν (σ.snd ν) = iprop(toks c ν ∗ land (F := F) (dstDev ν.1 c) ν ∗ owns (c : Thread nD τ) (srcM ν) (shr ν) (val xa xb c ν)) := by
            rw [h1]; unfold sendRes shr; rw [hn]; rfl
          ihave Hm := (ent e1) $$ Hm
          unfold toks
          icases Hm with ⟨⟨Ht, Ht', Hat⟩, Hl, Hs⟩
          iapply (wp_sendM xa xb K c ν l W Q)
          isplitr; · iexact HR
          isplitl [Hs]; · iexact Hs
          isplitl [Hl]; · iexact Hl
          isplitl [Ho]; · iexact Ho
          isplitl [Ht]; · iexact Ht
          isplitl [Ht']; · iexact Ht'
          iintro ⟨Hcr, Ho⟩
          iapply Hk
          isplitl [Ha]; · iexact Ha
          isplitl [Hb]; · iexact Hb
          isplitl [Hc]; · iexact Hc
          isplitl [Hf]; · iexact Hf
          isplitl [Hback Hat Hcr]
          · iapply Hback
            rw [e2]
            isplitl [Hat]; · iexact Hat
            iexact Hcr
          isplitl [Hrcv]; · iexact Hrcv
          iexists W; iexact Ho
        · exact absurd h (by simp)
  | recv μ =>
    simp only [step] at h
    split at h
    · rename_i hc
      obtain rfl := (Option.some.inj h).symm
      unfold St
      iintro ⟨#HR, #Hlev, ⟨Ha, Hb, Hc, Hf, Hsnd, Hrcv, ⟨%W, Ho⟩⟩, Hk⟩
      ihave H := (bigSep_univ_turn (fun μ s => recvRes xa xb c μ s) σ.rcv μ) $$ Hrcv
      icases H with ⟨Hm, Hback⟩
      have r0 : recvRes xa xb c μ (σ.rcv μ) = iprop(cred (tallyAt (recvCell c μ) () N) ∗ atPos ER (recvCell c μ) 0 ∅ 0) := by rw [hc.1]; rfl
      have r1 : recvRes xa xb c μ 1 = iprop(semVal (recvCell c μ) 0 ∗ recvPay xa xb c μ) := rfl
      ihave Hm := (ent r0) $$ Hm
      icases Hm with ⟨Hcr, Hat⟩
      iapply (wp_recvM xa xb K c μ σ.owe hc.2 W Q)
      isplitr; · iexact HR
      isplitr; · iexact Hlev
      isplitl [Ho]; · iexact Ho
      isplitl [Hcr]; · iexact Hcr
      isplitl [Hat]; · iexact Hat
      iintro ⟨Ho, Hz, Hp⟩
      iapply Hk
      isplitl [Ha]; · iexact Ha
      isplitl [Hb]; · iexact Hb
      isplitl [Hc]; · iexact Hc
      isplitl [Hf]; · iexact Hf
      isplitl [Hsnd]; · iexact Hsnd
      isplitl [Hback Hz Hp]
      · iapply Hback
        rw [r1]
        isplitl [Hz]; · iexact Hz
        iexact Hp
      iexists _; iexact Ho
    · exact absurd h (by simp)
  | add l s u =>
    simp only [step] at h
    split at h
    · rename_i hc
      obtain rfl := (Option.some.inj h).symm
      unfold St
      iintro ⟨#HR, #Hlev, ⟨Ha, Hb, Hc, ⟨%f, %hfo, Hf⟩, Hsnd, Hrcv, Ho⟩, Hk⟩
      ihave H := (bigSep_univ_turn (fun μ s => recvRes xa xb c μ s) σ.rcv (l, false, ix s u)) $$ Hrcv
      icases H with ⟨Hm, Hback⟩
      have r1 : recvRes xa xb c (l, false, ix s u) 1
          = iprop(semVal (recvCell c (l, false, ix s u)) 0 ∗ owns (c : Thread nD τ) (slot (rsR l) (ix s u)) fullShare (val xa xb (srcDev l c) (l, false, ix s u))) := rfl
      ihave Hm := (ent ((congrArg _ hc.1).trans r1)) $$ Hm
      icases Hm with ⟨Hz, Hm⟩
      iapply (wp_acc c (rsR l) (ix s u) (l, u, s.succ) f fullShare (val xa xb (srcDev l c) (l, false, ix s u)) Q)
      isplitl [Hf]; · iexact Hf
      isplitl [Hm]; · iexact Hm
      iintro ⟨Hf, Hm⟩
      iapply Hk
      isplitl [Ha]; · iexact Ha
      isplitl [Hb]; · iexact Hb
      isplitl [Hc]; · iexact Hc
      isplitl [Hf]
      · iexists _; isplitr
        · ipureintro
          refine out_put xa xb c σ.out f (l, u, s.succ) (vAcc (tile c (l, u, s.succ) f) (un (val xa xb (srcDev l c) (l, false, ix s u)))) 2 hfo ?_
          have ht : tile c (l, u, s.succ) f = own xa xb c (l, u, s.succ) := by have := hfo (l, u, s.succ); rw [hc.2] at this; exact this
          have hs : ∀ s : Fin 3, Fin.ofNat 4 (s.val + 1) = s.succ := by decide
          show vAcc (tile c (l, u, s.succ) f) (un (val xa xb (srcDev l c) (l, false, ix s u))) = acc xa xb l u (s.val + 1) c
          rw [ht, val_rs, acc, hs s]; rfl
        iexact Hf
      isplitl [Hsnd]; · iexact Hsnd
      isplitl [Hback Hz Hm]
      · ihave Hb2 := Hback $$ %1 [Hz Hm]
        · rw [r1]
          isplitl [Hz]; · iexact Hz
          iexact Hm
        rw [show Function.update σ.rcv (l, false, ix s u) 1 = σ.rcv from by rw [← hc.1]; exact Function.update_eq_self _ _]
        iexact Hb2
      iexact Ho
    · exact absurd h (by simp)
  | ext l s u =>
    simp only [step] at h
    split at h
    · rename_i hc
      obtain rfl := (Option.some.inj h).symm
      have hr : ∃ q : PosShare TreeShare, recvRes xa xb c (l, true, ix s u) (σ.rcv (l, true, ix s u))
          = iprop(semVal (recvCell c (l, true, ix s u)) 0 ∗ owns (c : Thread nD τ) (slot (agR l) (ix s u)) q (val xa xb (srcDev l c) (l, true, ix s u))) := by
        rcases hc with hc | hc
        · exact ⟨fullShare, by rw [hc]; rfl⟩
        · exact ⟨fullShare.left, by rw [hc]; rfl⟩
      obtain ⟨q, r1⟩ := hr
      unfold St
      iintro ⟨#HR, #Hlev, ⟨Ha, Hb, Hc, ⟨%f, %hfo, Hf⟩, Hsnd, Hrcv, Ho⟩, Hk⟩
      ihave H := (bigSep_univ_turn (fun μ s => recvRes xa xb c μ s) σ.rcv (l, true, ix s u)) $$ Hrcv
      icases H with ⟨Hm, Hback⟩
      ihave Hm := (ent r1) $$ Hm
      icases Hm with ⟨Hz, Hm⟩
      iapply (wp_ext c (agR l) (ix s u) (l, u, s.castSucc) f q (val xa xb (srcDev l c) (l, true, ix s u)) Q)
      isplitl [Hf]; · iexact Hf
      isplitl [Hm]; · iexact Hm
      iintro ⟨Hf, Hm⟩
      iapply Hk
      isplitl [Ha]; · iexact Ha
      isplitl [Hb]; · iexact Hb
      isplitl [Hc]; · iexact Hc
      isplitl [Hf]
      · iexists _; isplitr
        · ipureintro
          refine out_put xa xb c σ.out f (l, u, s.castSucc) (vExt (un (val xa xb (srcDev l c) (l, true, ix s u)))) 3 hfo ?_
          show vExt (un (val xa xb (srcDev l c) (l, true, ix s u))) = vExt (un (agVal xa xb l u s.val (srcDev l c)))
          rw [val_ag]
        iexact Hf
      isplitl [Hsnd]; · iexact Hsnd
      isplitl [Hback Hz Hm]
      · ihave Hb2 := Hback $$ %(σ.rcv (l, true, ix s u)) [Hz Hm]
        · rw [r1]
          isplitl [Hz]; · iexact Hz
          iexact Hm
        rw [Function.update_eq_self]
        iexact Hb2
      iexact Ho
    · exact absurd h (by simp)
  | left μ =>
    simp only [step] at h
    split at h
    · rename_i hc
      obtain rfl := (Option.some.inj h).symm
      unfold St
      iintro ⟨#HR, #Hlev, ⟨Ha, Hb, Hc, Hf, Hsnd, Hrcv, ⟨%W, Ho⟩⟩, Hk⟩
      ihave H := (bigSep_univ_turn (fun μ s => sendRes xa xb c μ s) σ.snd μ) $$ Hsnd
      icases H with ⟨Hm, Hback⟩
      have e2 : sendRes xa xb c μ (σ.snd μ) = iprop(atPos ER (sendCell c μ) 0 ∅ 0 ∗ cred (tallyAt (sendCell c μ) () N)) := by rw [hc.2]; rfl
      have e3 : sendRes xa xb c μ 3 = iprop(semVal (sendCell c μ) 0 ∗ sendPay xa xb c μ) := rfl
      ihave Ho := (ent (congrArg (fun x => owes (c : Thread nD τ) (sumL c x) W) hc.1)) $$ Ho
      ihave Hm := (ent e2) $$ Hm
      icases Hm with ⟨Hat, Hcr⟩
      iapply (wp_leftM xa xb K c μ W Q)
      isplitr; · iexact HR
      isplitl [Ho]; · iexact Ho
      isplitl [Hcr]; · iexact Hcr
      isplitl [Hat]; · iexact Hat
      iintro ⟨Ho, Hz, Hp⟩
      iapply Hk
      isplitl [Ha]; · iexact Ha
      isplitl [Hb]; · iexact Hb
      isplitl [Hc]; · iexact Hc
      isplitl [Hf]; · iexact Hf
      isplitl [Hback Hz Hp]
      · iapply Hback
        rw [e3]
        isplitl [Hz]; · iexact Hz
        iexact Hp
      isplitl [Hrcv]; · iexact Hrcv
      ihave Ho := (ent (congrArg (fun x => owes (c : Thread nD τ) (sumL c x) (insert (SemLoc.dma (sendSem μ), ()) W)) hc.1.symm)) $$ Ho
      iexists _; iexact Ho
    · exact absurd h (by simp)

/-- An allowed sequence of steps. -/
theorem wp_prog (c : Dev nD) (l : List Op) (Q : PUnit → sProp 𝕄) : ∀ (σ σ' : Sg), steps σ l = some σ' →
    iprop(records xa xb K ∗ levAts L lv ∗ St xa xb c σ ∗ (St xa xb c σ' -∗ Q ⟨⟩)) ⊢ wpc c (prog c l) Q := by
  induction l with
  | nil =>
    intro σ σ' h
    obtain rfl := (Option.some.inj h).symm
    iintro ⟨-, -, Hst, Hk⟩
    iapply (wpc_ret c)
    iapply Hk
    iexact Hst
  | cons o l ih =>
    intro σ σ' h
    simp only [steps] at h
    obtain ⟨σ₁, h₁, h₂⟩ := Option.bind_eq_some_iff.mp h
    unfold prog wpc
    rw [wp_bind]
    iintro ⟨#HR, #Hlev, Hst, Hk⟩
    iapply (wp_op xa xb K c σ σ₁ o h₁)
    isplitr; · iexact HR
    isplitr; · iexact Hlev
    isplitl [Hst]; · iexact Hst
    iintro Hst
    iapply (ih σ₁ σ' h₂)
    isplitr; · iexact HR
    isplitr; · iexact Hlev
    isplitl [Hst]; · iexact Hst
    iexact Hk

end Cert.KernelIdeal.Ring

end
-- ==== Proof.KI.Script.lean ====
/-
# The body as a sequence of steps

After the entry handshake the body is a sequence of steps (`ops`), the same on every device, and the tables allow it
(`run_ops`).
-/
module

public import proofs.«01_k».proof.Proof.KI.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A reduce-scatter message staged and sent. -/
def oRs (l : Bool) (s : Fin 3) (u : Fin 2) : List Op := [.stage l s u, .send (l, false, ix s u)]
/-- A reduce-scatter message received and added. -/
def oAdd (l : Bool) (s : Fin 3) (u : Fin 2) : List Op := [.recv (l, false, ix s u), .add l s u]
/-- The completed tile staged and sent. -/
def oAg (l : Bool) (u : Fin 2) : List Op := [.stageG l u, .send (l, true, ix 0 u)]
/-- An all-gather message received, passed on and written. -/
def oFwd (l : Bool) (s : Fin 2) (u : Fin 2) : List Op := [.recv (l, true, ix s.castSucc u), .send (l, true, ix s.succ u), .ext l s.castSucc u]
/-- The last all-gather message received and written. -/
def oLast (l : Bool) (u : Fin 2) : List Op := [.recv (l, true, ix 2 u), .ext l 2 u]

/-- The first messages. -/
def opsStart : List Op := oRs false 0 0 ++ (oRs false 0 1 ++ (oRs true 0 0 ++ (oRs true 0 1 ++ ([.dot 1] ++ [.dot 3]))))
/-- The reduce-scatter. -/
def opsReduce : List Op :=
  oAdd false 0 0 ++ (oRs false 1 0 ++ (oAdd true 0 0 ++ (oRs true 1 0 ++ (oAdd false 0 1 ++ (oRs false 1 1 ++ (oAdd true 0 1 ++ (oRs true 1 1 ++ ([.dot 2] ++
  (oAdd false 1 0 ++ (oRs false 2 0 ++ (oAdd true 1 0 ++ (oRs true 2 0 ++ (oAdd false 1 1 ++ (oRs false 2 1 ++ (oAdd true 1 1 ++ (oRs true 2 1 ++
  (oAdd false 2 0 ++ (oAg false 0 ++ (oAdd true 2 0 ++ (oAg true 0 ++ (oAdd false 2 1 ++ (oAg false 1 ++ (oAdd true 2 1 ++ oAg true 1)))))))))))))))))))))))
/-- The all-gather. -/
def opsGather : List Op :=
  oFwd false 0 0 ++ (oFwd true 0 0 ++ (oFwd false 0 1 ++ (oFwd true 0 1 ++ (oFwd false 1 0 ++ (oFwd true 1 0 ++ (oFwd false 1 1 ++ (oFwd true 1 1 ++
  (oLast false 0 ++ (oLast true 0 ++ (oLast false 1 ++ oLast true 1))))))))))
/-- The sends seen off. -/
def opsDrain (l : Bool) : List Op :=
  [.left (l, false, 0), .left (l, true, 0), .left (l, false, 1), .left (l, true, 1), .left (l, false, 2), .left (l, true, 2),
   .left (l, false, 3), .left (l, true, 3), .left (l, false, 4), .left (l, true, 4), .left (l, false, 5), .left (l, true, 5)]
/-- All steps after the handshake. -/
def ops : List Op := opsStart ++ (opsReduce ++ (opsGather ++ (opsDrain false ++ opsDrain true)))

theorem bind_prog (d : Dev nD) (a b : List Op) : (prog (F := F) d a >>= fun _ => prog d b) = prog d (a ++ b) := by
  induction a with
  | nil => simp only [prog, pure_bind, List.nil_append]
  | cons o l ih => simp only [prog, bind_assoc, ih, List.cons_append]

theorem bind_done (p : KProg F PUnit) : (p >>= fun _ => pure ⟨⟩) = p := bind_pure p

theorem prog_one (d : Dev nD) (o : Op) : prog (F := F) d [o] = interp d o := bind_done _

theorem rs_eq (d : Dev nD) (l : Bool) (s : Fin 3) (u : Fin 2) : pRs (F := F) d l s u = prog d (oRs l s u) := by
  simp only [pRs, oRs, prog, interp, bind_done]
theorem add_eq (d : Dev nD) (l : Bool) (s : Fin 3) (u : Fin 2) : pAdd (F := F) d l s u = prog d (oAdd l s u) := by
  simp only [pAdd, oAdd, prog, interp, bind_done]
theorem ag_eq (d : Dev nD) (l : Bool) (u : Fin 2) : pAg (F := F) d l u = prog d (oAg l u) := by
  simp only [pAg, oAg, prog, interp, bind_done]
theorem fwd_eq (d : Dev nD) (l : Bool) (s u : Fin 2) : pFwd (F := F) d l s u = prog d (oFwd l s u) := by
  simp only [pFwd, oFwd, prog, interp, bind_done]
theorem last_eq (d : Dev nD) (l : Bool) (u : Fin 2) : pLast (F := F) d l u = prog d (oLast l u) := by
  simp only [pLast, oLast, prog, interp, bind_done]; rfl
theorem dot_eq (d : Dev nD) (r : Fin 4) : pDot (F := F) d r = prog d [.dot r] := (prog_one d (.dot r)).symm

theorem reduce_eq (d : Dev nD) : pReduce (F := F) d = prog d opsReduce := by
  simp only [pReduce, opsReduce, add_eq, rs_eq, ag_eq, dot_eq, bind_prog]
theorem gather_eq (d : Dev nD) : pGather (F := F) d = prog d opsGather := by
  simp only [pGather, opsGather, fwd_eq, last_eq, bind_prog]
theorem drain_eq (d : Dev nD) (l : Bool) : pDrain (F := F) l = prog d (opsDrain l) := by
  simp only [pDrain, opsDrain, prog, interp, bind_done]
theorem start_eq (d : Dev nD) : pStart (F := F) d = pCopy >>= fun _ => pDot d 0 >>= fun _ => pBar d >>= fun _ => prog d opsStart := by
  simp only [pStart, opsStart, rs_eq, dot_eq d 1, dot_eq d 3, bind_prog]

/-- The body: the copy, the first products, the handshake, the steps. -/
theorem body_ops : (pBody : KProg F PUnit)
    = Prog.lift .deviceId >>= fun d : Dev nD => pCopy >>= fun _ => pDot d 0 >>= fun _ => pBar d >>= fun _ => prog d ops := by
  unfold pBody
  congr 1

/-- The messages in the order they are sent. -/
def sendOrder : List Msg := ops.filterMap fun o => match o with | .send μ => some μ | _ => none

theorem sendOrder_nodup : sendOrder.Nodup := by decide +kernel
theorem sendOrder_all : ∀ μ, μ ∈ sendOrder := by decide +kernel

/-- The tables after the handshake. -/
def σ₀ : Sg := ⟨fun t => if chunkOf t = 0 then 1 else 0, fun _ => 0, fun _ => 0, sendOrder⟩

/-- The tables at the end: each tile complete, each message left, each received. -/
def Done (σ : Sg) : Prop :=
  (∀ t : Tl, σ.out t = if t.2.2 = 3 then 2 else 3) ∧ (∀ μ, σ.snd μ = 3) ∧ (∀ μ : Msg, σ.rcv μ = if μ.2.1 = true ∧ μ.2.2.val < 4 then 2 else 1) ∧ σ.owe = []

instance (σ : Sg) : Decidable (Done σ) := by unfold Done; infer_instance

/-- The tables allow the steps, and end so. -/
theorem run_ops : ∃ σ, steps σ₀ ops = some σ ∧ Done σ := by
  have h : (match steps σ₀ ops with | some σ => decide (Done σ) | none => false) = true := by decide +kernel
  cases e : steps σ₀ ops with
  | none => rw [e] at h; cases h
  | some σ => rw [e] at h; exact ⟨σ, rfl, of_decide_eq_true h⟩

end Cert.KernelIdeal.Ring

end
-- ==== Proof.KI.Out.lean ====
/-
# The output at the end

The sixteen tiles cover the output, each once, so the output is what its tiles are (`out_eq`).
-/
module

public import proofs.«01_k».proof.Proof.KI.Script

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem tile_at (c : Dev nD) (t : Tl) (f : OutC F) (x : S512x512.Idx) : tile c t f x = f ((tlR c t).emb x) := rfl

theorem tiles_at : ∀ (c : Dev nD) (a b : Fin 4), ∃ t : Tl, offT c t.1 t.2.1 t.2.2 0 = 512 * a.val ∧ offT c t.1 t.2.1 t.2.2 1 = 512 * b.val := by
  decide +kernel

/-- Each index lies in a tile. -/
theorem cover (c : Dev nD) (i : S2048x2048.Idx) : ∃ p : Tl × S512x512.Idx, (tlR c p.1).emb p.2 = i := by
  have h0 : (i 0 : Nat) < 2048 := (i 0).isLt
  have h1 : (i 1 : Nat) < 2048 := (i 1).isLt
  obtain ⟨t, e0, e1⟩ := tiles_at c ⟨(i 0 : Nat) / 512, by omega⟩ ⟨(i 1 : Nat) / 512, by omega⟩
  refine ⟨(t, fun a => match a with
    | ⟨0, _⟩ => ⟨(i 0 : Nat) % 512, Nat.mod_lt _ (by decide)⟩
    | ⟨1, _⟩ => ⟨(i 1 : Nat) % 512, Nat.mod_lt _ (by decide)⟩), funext fun a => Fin.ext ?_⟩
  rw [Rect.emb_apply]
  fin_cases a
  · show offT c t.1 t.2.1 t.2.2 0 + 1 * ((i 0 : Nat) % 512) = (i 0 : Nat)
    rw [e0]; dsimp only; omega
  · show offT c t.1 t.2.1 t.2.2 1 + 1 * ((i 1 : Nat) % 512) = (i 1 : Nat)
    rw [e1]; dsimp only; omega

/-- Each index lies in one tile. -/
theorem cover_unique (c : Dev nD) (p p' : Tl × S512x512.Idx) (h : (tlR c p.1).emb p.2 = (tlR c p'.1).emb p'.2) : p = p' := by
  obtain ⟨t, x⟩ := p
  obtain ⟨t', x'⟩ := p'
  have e (a : Fin 2) : offT c t.1 t.2.1 t.2.2 a + 1 * (x a : Nat) = offT c t'.1 t'.2.1 t'.2.2 a + 1 * (x' a : Nat) := by
    have := congrArg (fun j : S2048x2048.Idx => (j a : Nat)) h
    exact this
  have b (y : S512x512.Idx) (a : Fin 2) : (y a : Nat) < 512 := by
    have := (y a).isLt
    fin_cases a <;> exact this
  by_cases ht : t = t'
  · subst ht
    have hx : x = x' := funext fun a => Fin.ext (by have := e a; omega)
    rw [hx]
  · obtain ⟨a, ha⟩ := off_apart c t t' ht
    have h1 := e a
    have h2 := b x a
    have h3 := b x' a
    omega

variable (xa : Dev nD → (cc0_stg0_0 : Ref sig .tc).ty.Contents (Elt F)) (xb : Dev nD → (cc0_stg1_0 : Ref sig .tc).ty.Contents (Elt F))

/-- A tile at the end: the one the device completed, unrounded; the others as they landed. -/
def finT (c : Dev nD) (t : Tl) : Vec F S512x512 .f32 :=
  if t.2.2 = 3 then acc xa xb t.1 t.2.1 3 c else vExt (un (agVal xa xb t.1 t.2.1 t.2.2.val (srcDev t.1 c)))

/-- The output at the end. -/
def outAt (c : Dev nD) : OutC F := fun i => finT xa xb c (cover c i).choose.1 (cover c i).choose.2

theorem outAt_tile (c : Dev nD) (p : Tl × S512x512.Idx) : outAt xa xb c ((tlR c p.1).emb p.2) = finT xa xb c p.1 p.2 := by
  have h := cover_unique c _ _ (cover c ((tlR c p.1).emb p.2)).choose_spec
  unfold outAt
  rw [h]

/-- An output whose tiles are all complete. -/
theorem out_eq (c : Dev nD) (σ : Sg) (hd : Done σ) (f : OutC F) (h : OutOK xa xb c σ.out f) : f = outAt xa xb c := by
  funext i
  obtain ⟨⟨t, x⟩, rfl⟩ := cover c i
  rw [outAt_tile xa xb c (t, x)]
  show tile c t f x = finT xa xb c t x
  have ht := h t
  rw [hd.1 t] at ht
  unfold finT
  by_cases hk : t.2.2 = 3
  · rw [if_pos hk] at ht ⊢
    have e : tile c t f = acc xa xb t.1 t.2.1 t.2.2.val c := ht
    rw [e, hk]; rfl
  · rw [if_neg hk] at ht ⊢
    have e : tile c t f = vExt (un (agVal xa xb t.1 t.2.1 t.2.2.val (srcDev t.1 c))) := ht
    rw [e]

end Cert.KernelIdeal.Ring

end
-- ==== Proof.KI.Rest.lean ====
/-
# The scratch buffers as slots

Each of the eight message buffers is its slots. So the scratch buffers are the copy of the right operand, the landing
slots and the staging slots of all messages (`rest_dirs`, `dir_split`), and come back from what the messages leave (`end_dir`, `dir_join`).
-/
module

public import proofs.«01_k».proof.Proof.KI.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Slots

variable {n : Nat} (b : BufN n)

theorem slots_apart (i j : Fin n) (h : i ≠ j) : Disjoint (slotR i).set (slotR j).set :=
  Rect.unit_disjoint (0 : Fin 3) (by
    have : i.val ≠ j.val := fun e => h (Fin.ext e)
    show i.val + 1 ≤ j.val ∨ j.val + 1 ≤ i.val
    omega)

theorem slots_cover : (Finset.univ : Finset (Fin n)).biUnion (fun i => (slotR i).set) = Finset.univ := by
  refine Finset.eq_univ_iff_forall.mpr fun x => Finset.mem_biUnion.mpr ⟨x 0, Finset.mem_univ _, Rect.mem_set_unit.mpr fun a => ?_⟩
  have h1 : (x 1 : Nat) < 512 := (x 1).isLt
  have h2 : (x 2 : Nat) < 512 := (x 2).isLt
  fin_cases a
  · exact ⟨Nat.le_refl _, Nat.lt_succ_self _⟩
  · exact ⟨Nat.zero_le _, by show (x 1 : Nat) < 0 + 512; omega⟩
  · exact ⟨Nat.zero_le _, by show (x 2 : Nat) < 0 + 512; omega⟩

theorem slot_sets_apart (i j : Fin n) (h : i ≠ j) : Disjoint (slot b i).view.set (slot b j).view.set := by
  rw [slot_set, slot_set]
  show Disjoint (b.view.slice (slotR i)).set (b.view.slice (slotR j)).set
  rw [View.set_slice, View.set_slice]
  exact (Finset.disjoint_map _).mpr (slots_apart i j h)

theorem slot_sets_cover : b.view.set = (Finset.univ : Finset (Fin n)).biUnion fun i => (slot b i).view.set := by
  have e : (fun i : Fin n => (slot b i).view.set) = fun i => (slotR i).set.map b.view.emb := funext fun i => by
    rw [slot_set]
    show (b.view.slice (slotR i)).set = _
    rw [View.set_slice]
  rw [e]
  ext x
  constructor
  · intro hx
    rw [View.set, Finset.mem_map] at hx
    obtain ⟨y, -, rfl⟩ := hx
    have hy : y ∈ (Finset.univ : Finset (Fin n)).biUnion (fun i => (slotR i).set) := by rw [slots_cover]; exact Finset.mem_univ y
    obtain ⟨i, hi, hy⟩ := Finset.mem_biUnion.mp hy
    exact Finset.mem_biUnion.mpr ⟨i, hi, Finset.mem_map_of_mem _ hy⟩
  · intro hx
    obtain ⟨i, -, hx⟩ := Finset.mem_biUnion.mp hx
    obtain ⟨y, -, rfl⟩ := Finset.mem_map.mp hx
    exact View.emb_mem_set _ y

/-- A slot, at whatever it holds. -/
def anySlot (c : Dev nD) (i : Fin n) : sProp 𝕄 := iprop(∃ X, owns (c : Thread nD τ) (slot b i) fullShare X)

theorem slot_any (c : Dev nD) (i : Fin n) (f : Buf (Elt F) (b.view.loc (c : Thread nD τ))) :
    (b.view.loc (c : Thread nD τ) ↦[(slot b i).view.set]{fullShare} f : sProp 𝕄) ⊢ anySlot (F := F) b c i := by
  unfold anySlot owns
  iintro H
  iexists _; iexists f
  isplitr; · (ipureintro; rfl)
  iexact H

theorem any_slot (c : Dev nD) (i : Fin n) :
    anySlot (F := F) b c i ⊢ (iprop(∃ f, b.view.loc (c : Thread nD τ) ↦[(slot b i).view.set]{fullShare} f) : sProp 𝕄) := by
  unfold anySlot owns
  iintro ⟨%X, %f, -, H⟩
  iexists f; iexact H

/-- A buffer is its slots. -/
theorem buf_slots (c : Dev nD) (f : Buf (Elt F) (b.view.loc (c : Thread nD τ))) :
    (b.view.loc (c : Thread nD τ) ↦[b.view.set]{fullShare} f : sProp 𝕄) ⊢ bigSep Finset.univ (anySlot (F := F) b c) := by
  rw [slot_sets_cover, pointsTo_biUnion _ _ fun i _ j _ h => slot_sets_apart b i j h]
  exact bigSep_mono fun i _ => slot_any b c i f

/-- Slots make a buffer. -/
theorem slots_buf [NeZero n] (c : Dev nD) :
    bigSep Finset.univ (anySlot (F := F) b c) ⊢ (iprop(∃ f, b.view.loc (c : Thread nD τ) ↦[b.view.set]{fullShare} f) : sProp 𝕄) := by
  have h : bigSep Finset.univ (anySlot (F := F) b c) ⊢ (iprop(∃ fs : Fin n → _, bigSep Finset.univ fun i => (b.view.loc (c : Thread nD τ) ↦[(slot b i).view.set]{fullShare} fs i)) : sProp 𝕄) := (bigSep_mono fun (i : Fin n) (_ : i ∈ Finset.univ) => any_slot (F := F) b c i).trans
    (BI.bigSep_exists_pi Finset.univ fun (i : Fin n) f => (b.view.loc (c : Thread nD τ) ↦[(slot b i).view.set]{fullShare} f : sProp 𝕄))
  iintro H
  ihave H := h $$ H
  icases H with ⟨%fs, H⟩
  ihave H := (pointsTo_biUnion_join Finset.univ (fun i : Fin n => (slot b i).view.set) fs (fs 0) fun i _ j _ h => slot_sets_apart b i j h) $$ H
  icases H with ⟨%g, -, H⟩
  iexists g
  rw [slot_sets_cover]
  iexact H

end Slots

/-- A whole buffer, at whatever it holds. -/
def anyB (c : Dev nD) (b : Ref sig .tc) : sProp 𝕄 := iprop(∃ f : Buf (Elt F) ((c : Thread nD τ).loc b), ((c : Thread nD τ).loc b) ↦{fullShare} f)

/-- A whole buffer of `n` slots gives its slots; -/
theorem any_slots {n : Nat} (c : Dev nD) (b : BufN n) (hb : b.IsWhole) : anyB (F := F) c b.view.ref ⊢ bigSep Finset.univ (anySlot (F := F) b c) := by
  have h := fun f => buf_slots (F := F) b c f
  rw [hb.set_eq_univ] at h
  unfold anyB
  iintro ⟨%f, H⟩
  iapply (h f)
  iexact H

/-- and comes back from them. -/
theorem slots_any {n : Nat} [NeZero n] (c : Dev nD) (b : BufN n) (hb : b.IsWhole) : bigSep Finset.univ (anySlot (F := F) b c) ⊢ anyB (F := F) c b.view.ref := by
  have h := slots_buf (F := F) b c
  rw [hb.set_eq_univ] at h
  exact h

/-- The staging slot of a message that is not passed on. -/
def staged (c : Dev nD) (μ : Msg) : sProp 𝕄 := if fwd μ then iprop(emp) else iprop(∃ X, owns (c : Thread nD τ) (srcM μ) fullShare X)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin2 (Φ : Fin 2 → sProp 𝕄) : bigSep Finset.univ Φ = iprop(Φ 0 ∗ Φ 1) :=
  bigSep_univ_eq_bigSepL [0, 1] (by decide) (by decide) Φ

/-- A direction's message slots, by buffer. -/
def dirSlots (c : Dev nD) (l : Bool) : sProp 𝕄 :=
  iprop(bigSep Finset.univ (anySlot (F := F) (rsS l) c) ∗ bigSep Finset.univ (anySlot (F := F) (rsR l) c)
    ∗ bigSep Finset.univ (anySlot (F := F) (agS l) c) ∗ bigSep Finset.univ (anySlot (F := F) (agR l) c))

/-- The staging slots of a direction; -/
theorem staged_dir (c : Dev nD) (l : Bool) : (bigSep Finset.univ fun p : Bool × Fin 6 => staged (F := F) c (l, p))
    = iprop(bigSep Finset.univ (anySlot (F := F) (rsS l) c) ∗ bigSep Finset.univ (anySlot (F := F) (agS l) c)) := by
  have h0 : staged (F := F) c (l, true, 0) = anySlot (agS l) c 0 := rfl
  have h1 : staged (F := F) c (l, true, 1) = anySlot (agS l) c 1 := rfl
  have h2 : staged (F := F) c (l, true, 2) = iprop(emp) := rfl
  have h3 : staged (F := F) c (l, true, 3) = iprop(emp) := rfl
  have h4 : staged (F := F) c (l, true, 4) = iprop(emp) := rfl
  have h5 : staged (F := F) c (l, true, 5) = iprop(emp) := rfl
  rw [bigSep_univ_prod fun p : Bool × Fin 6 => staged (F := F) c (l, p), bigSep_bool]
  congr 1
  rw [bigSep_fin6, bigSep_fin2, h0, h1, h2, h3, h4, h5]
  refine BI.equiv_iff.mp ⟨?_, ?_⟩
  · show iprop(anySlot (F := F) (agS l) c 0 ∗ anySlot (F := F) (agS l) c 1 ∗ emp ∗ emp ∗ emp ∗ emp) ⊢ iprop(anySlot (F := F) (agS l) c 0 ∗ anySlot (F := F) (agS l) c 1)
    iintro ⟨H0, H1, -, -, -, -⟩
    isplitl [H0] <;> iassumption
  · show iprop(anySlot (F := F) (agS l) c 0 ∗ anySlot (F := F) (agS l) c 1) ⊢ iprop(anySlot (F := F) (agS l) c 0 ∗ anySlot (F := F) (agS l) c 1 ∗ emp ∗ emp ∗ emp ∗ emp)
    iintro ⟨H0, H1⟩
    isplitl [H0]; · iexact H0
    isplitl [H1]; · iexact H1
    isplitr; · iempintro
    isplitr; · iempintro
    isplitr <;> iempintro

/-- the landing slots. -/
theorem land_dir (c : Dev nD) (l : Bool) : (bigSep Finset.univ fun p : Bool × Fin 6 => land (F := F) c (l, p))
    = iprop(bigSep Finset.univ (anySlot (F := F) (rsR l) c) ∗ bigSep Finset.univ (anySlot (F := F) (agR l) c)) := by
  rw [bigSep_univ_prod fun p : Bool × Fin 6 => land (F := F) c (l, p), bigSep_bool]
  rfl

/-- The scratch buffers of a direction. -/
def dirBufs (c : Dev nD) (l : Bool) : sProp 𝕄 :=
  iprop(anyB (F := F) c (rsS l).view.ref ∗ anyB (F := F) c (rsR l).view.ref ∗ anyB (F := F) c (agS l).view.ref ∗ anyB (F := F) c (agR l).view.ref)

theorem dir_split (c : Dev nD) (l : Bool) : dirBufs (F := F) c l
    ⊢ iprop((bigSep Finset.univ fun p : Bool × Fin 6 => staged (F := F) c (l, p)) ∗ bigSep Finset.univ fun p : Bool × Fin 6 => land (F := F) c (l, p)) := by
  rw [staged_dir, land_dir]
  unfold dirBufs
  iintro ⟨H1, H2, H3, H4⟩
  ihave H1 := (any_slots c (rsS l) (rsS_whole l)) $$ H1
  ihave H2 := (any_slots c (rsR l) (rsR_whole l)) $$ H2
  ihave H3 := (any_slots c (agS l) (agS_whole l)) $$ H3
  ihave H4 := (any_slots c (agR l) (agR_whole l)) $$ H4
  isplitl [H1 H3]
  · isplitl [H1] <;> iassumption
  · isplitl [H2] <;> iassumption

theorem dir_join (c : Dev nD) (l : Bool) : iprop((bigSep Finset.univ fun p : Bool × Fin 6 => staged (F := F) c (l, p)) ∗ bigSep Finset.univ fun p : Bool × Fin 6 => land (F := F) c (l, p))
    ⊢ dirBufs (F := F) c l := by
  rw [staged_dir, land_dir]
  unfold dirBufs
  iintro ⟨⟨H1, H3⟩, H2, H4⟩
  ihave H1 := (slots_any c (rsS l) (rsS_whole l)) $$ H1
  ihave H2 := (slots_any c (rsR l) (rsR_whole l)) $$ H2
  ihave H3 := (slots_any c (agS l) (agS_whole l)) $$ H3
  ihave H4 := (slots_any c (agR l) (agR_whole l)) $$ H4
  isplitl [H1]; · iexact H1
  isplitl [H2]; · iexact H2
  isplitl [H3]; · iexact H3
  iexact H4

/-- The scratch buffers are the copy's, and each direction's. -/
theorem rest_dirs (c : Dev nD) : (Pipeline.scopedRest (Ix := Unit) (Name := ℕ) (U := UU) (Lvl := ℕ) (Val := Elt F) cfg0.spec c : sProp 𝕄)
    ⊣⊢ iprop(anyB (F := F) c cc0_scratch0 ∗ dirBufs (F := F) c false ∗ dirBufs (F := F) c true) := by
  rw [show (Pipeline.scopedRest (Ix := Unit) (Name := ℕ) (U := UU) (Lvl := ℕ) (Val := Elt F) cfg0.spec c : sProp 𝕄) = _ from scopedRest0_eq c]
  constructor
  · show iprop(anyB (F := F) c cc0_scratch0 ∗ anyB (F := F) c cc0_scratch1 ∗ anyB (F := F) c cc0_scratch2 ∗ anyB (F := F) c cc0_scratch3 ∗ anyB (F := F) c cc0_scratch4
      ∗ anyB (F := F) c cc0_scratch5 ∗ anyB (F := F) c cc0_scratch6 ∗ anyB (F := F) c cc0_scratch7 ∗ anyB (F := F) c cc0_scratch8) ⊢ _
    unfold dirBufs
    iintro ⟨H0, H1, H2, H3, H4, H5, H6, H7, H8⟩
    isplitl [H0]; · iexact H0
    isplitl [H1 H2 H3 H4]
    · isplitl [H1]; · iexact H1
      isplitl [H2]; · iexact H2
      isplitl [H3] <;> iassumption
    · isplitl [H5]; · iexact H5
      isplitl [H6]; · iexact H6
      isplitl [H7] <;> iassumption
  · show _ ⊢ iprop(anyB (F := F) c cc0_scratch0 ∗ anyB (F := F) c cc0_scratch1 ∗ anyB (F := F) c cc0_scratch2 ∗ anyB (F := F) c cc0_scratch3 ∗ anyB (F := F) c cc0_scratch4
      ∗ anyB (F := F) c cc0_scratch5 ∗ anyB (F := F) c cc0_scratch6 ∗ anyB (F := F) c cc0_scratch7 ∗ anyB (F := F) c cc0_scratch8)
    unfold dirBufs
    iintro ⟨H0, ⟨H1, H2, H3, H4⟩, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

/-- All messages, by direction. -/
theorem bigSep_msg (Φ : Msg → sProp 𝕄) : bigSep Finset.univ Φ = iprop((bigSep Finset.univ fun p : Bool × Fin 6 => Φ (false, p)) ∗ bigSep Finset.univ fun p : Bool × Fin 6 => Φ (true, p)) := by
  rw [bigSep_univ_prod Φ, bigSep_bool]

variable (xa : Dev nD → (cc0_stg0_0 : Ref sig .tc).ty.Contents (Elt F)) (xb : Dev nD → (cc0_stg1_0 : Ref sig .tc).ty.Contents (Elt F))

/-- What a received message leaves: its slot, of which the passed-on message has half. -/
def kept (c : Dev nD) (μ : Msg) : sProp 𝕄 :=
  owns (c : Thread nD τ) (dstM μ) (if μ.2.1 = true ∧ μ.2.2.val < 4 then fullShare.left else fullShare) (val xa xb (srcDev μ.1 c) μ)

/-- A passed-on message's halves joined. -/
theorem join_fwd (c : Dev nD) (μ : Msg) (h : fwd μ = true) (h' : (prevM μ).2.1 = true ∧ (prevM μ).2.2.val < 4) :
    iprop(sendPay xa xb c μ ∗ kept xa xb c (prevM μ)) ⊢ land (F := F) c (prevM μ) := by
  unfold sendPay kept land
  rw [if_pos h, if_pos h', fwd_src μ h, fwd_val xa xb c μ h]
  iintro ⟨H1, H2⟩
  iexists _
  iapply (owns_halves _ _ _ _).2
  isplitl [H2] <;> iassumption

theorem join_kept (c : Dev nD) (μ : Msg) (h' : ¬(μ.2.1 = true ∧ μ.2.2.val < 4)) : kept xa xb c μ ⊢ land (F := F) c μ := by
  unfold kept land
  rw [if_neg h']
  iintro H
  iexists _
  iexact H

theorem join_sent (c : Dev nD) (μ : Msg) (h : fwd μ = false) : sendPay xa xb c μ ⊢ staged (F := F) c μ := by
  unfold sendPay staged
  rw [h]
  show owns (c : Thread nD τ) (srcM μ) fullShare (val xa xb c μ) ⊢ iprop(∃ X, owns (c : Thread nD τ) (srcM μ) fullShare X)
  iintro H
  iexists _
  iexact H

theorem staged_fwd (c : Dev nD) (μ : Msg) (h : fwd μ = true) : staged (F := F) c μ = iprop(emp) := by
  unfold staged; rw [h]; rfl

/-- At the end, a direction's slots from what its messages left. -/
theorem end_dir (c : Dev nD) (l : Bool) :
    iprop((bigSep Finset.univ fun p : Bool × Fin 6 => sendPay xa xb c (l, p)) ∗ bigSep Finset.univ fun p : Bool × Fin 6 => kept xa xb c (l, p))
      ⊢ iprop((bigSep Finset.univ fun p : Bool × Fin 6 => staged (F := F) c (l, p)) ∗ bigSep Finset.univ fun p : Bool × Fin 6 => land (F := F) c (l, p)) := by
  have hs : (bigSep Finset.univ fun i : Fin 6 => sendPay xa xb c (l, false, i)) ⊢ bigSep Finset.univ fun i : Fin 6 => staged (F := F) c (l, false, i) := bigSep_mono fun (i : Fin 6) (_ : i ∈ Finset.univ) => join_sent xa xb c (l, false, i) rfl
  have hr : (bigSep Finset.univ fun i : Fin 6 => kept xa xb c (l, false, i)) ⊢ bigSep Finset.univ fun i : Fin 6 => land (F := F) c (l, false, i) := bigSep_mono fun (i : Fin 6) (_ : i ∈ Finset.univ) => join_kept xa xb c (l, false, i) fun h => absurd h.1 (by simp)
  rw [bigSep_univ_prod fun p : Bool × Fin 6 => sendPay xa xb c (l, p), bigSep_univ_prod fun p : Bool × Fin 6 => kept xa xb c (l, p),
    bigSep_univ_prod fun p : Bool × Fin 6 => staged (F := F) c (l, p), bigSep_univ_prod fun p : Bool × Fin 6 => land (F := F) c (l, p),
    bigSep_bool, bigSep_bool, bigSep_bool, bigSep_bool, bigSep_fin6 fun i => sendPay xa xb c (l, true, i), bigSep_fin6 fun i => kept xa xb c (l, true, i),
    bigSep_fin6 fun i => staged (F := F) c (l, true, i), bigSep_fin6 fun i => land (F := F) c (l, true, i),
    staged_fwd c (l, true, 2) rfl, staged_fwd c (l, true, 3) rfl, staged_fwd c (l, true, 4) rfl, staged_fwd c (l, true, 5) rfl]
  iintro ⟨⟨HS, HS0, HS1, HS2, HS3, HS4, HS5⟩, HR, HR0, HR1, HR2, HR3, HR4, HR5⟩
  isplitl [HS HS0 HS1]
  · isplitl [HS]; · iapply hs; iexact HS
    isplitl [HS0]; · iapply (join_sent xa xb c (l, true, 0) rfl); iexact HS0
    isplitl [HS1]; · iapply (join_sent xa xb c (l, true, 1) rfl); iexact HS1
    isplitr; · iempintro
    isplitr; · iempintro
    isplitr <;> iempintro
  isplitl [HR]; · iapply hr; iexact HR
  isplitl [HR0 HS2]
  · iapply (join_fwd xa xb c (l, true, 2) rfl ⟨rfl, (by decide : (2 - 2 : ℕ) < 4)⟩); isplitl [HS2]; · iexact HS2
    iexact HR0
  isplitl [HR1 HS3]
  · iapply (join_fwd xa xb c (l, true, 3) rfl ⟨rfl, (by decide : (3 - 2 : ℕ) < 4)⟩); isplitl [HS3]; · iexact HS3
    iexact HR1
  isplitl [HR2 HS4]
  · iapply (join_fwd xa xb c (l, true, 4) rfl ⟨rfl, (by decide : (4 - 2 : ℕ) < 4)⟩); isplitl [HS4]; · iexact HS4
    iexact HR2
  isplitl [HR3 HS5]
  · iapply (join_fwd xa xb c (l, true, 5) rfl ⟨rfl, (by decide : (5 - 2 : ℕ) < 4)⟩); isplitl [HS5]; · iexact HS5
    iexact HR3
  isplitl [HR4]; · iapply (join_kept xa xb c (l, true, 4) fun h => absurd h.2 (by decide : ¬(4 : ℕ) < 4)); iexact HR4
  iapply (join_kept xa xb c (l, true, 5) fun h => absurd h.2 (by decide : ¬(5 : ℕ) < 4)); iexact HR5

end Cert.KernelIdeal.Ring

end
-- ==== Proof.KI.Body.lean ====
/-
# The body, proved

From the launch's ghost state the body runs, on any device, to the output `outAt`, the scratch buffers back and every
counter at zero.
-/
module

public import proofs.«01_k».proof.Proof.KI.Out
public import proofs.«01_k».proof.Proof.KI.Rest
public import proofs.«01_k».proof.Proof.Gen.KernelIdeal.Frame

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The launch memory. -/
def s₀ : MemSt nD τ sig (Elt F) := ⟨m, fun _ => 0, ρ⟩

/-- The left operand of a device, staged; -/
def xA (c : Dev nD) : (cc0_stg0_0 : Ref sig .tc).ty.Contents (Elt F) := (win0_0.blk (0 : Fin 1)).view.read (Elt F) (m ((c : Thread nD τ).loc main_arg0))
/-- the right operand. -/
def xB (c : Dev nD) : (cc0_stg1_0 : Ref sig .tc).ty.Contents (Elt F) := (win0_1.blk (0 : Fin 1)).view.read (Elt F) (m ((c : Thread nD τ).loc main_arg1))

/-- What a device owes at the start: its messages and its two signals. -/
def O₀ (c : Dev nD) : CellTallies nD τ sig Unit := sumL c sendOrder + tallyAt (barCell (dstDev false c)) () 1 + tallyAt (barCell (dstDev true c)) () 1

/-- A device's own positions and the tokens of the duties it pays. -/
def linear (c : Dev nD) : sProp 𝕄 :=
  iprop(atPos ER (barCell c) 0 ∅ 0 ∗ dutyTok ER (barCell (dstDev true c)) 0 false ∗ dutyTok ER (barCell (dstDev false c)) 0 true
    ∗ (bigSep Finset.univ fun μ => toks (F := F) c μ) ∗ bigSep Finset.univ fun μ => atPos ER (recvCell c μ) 0 ∅ 0)

/-- What the body starts from beside the buffers. -/
def start (c : Dev nD) : sProp 𝕄 :=
  iprop((∃ K, records (xA m) (xB m) K ∗ linear c) ∗ cred (tallyAt (barCell c) () 2) ∗ (bigSep Finset.univ fun μ => cred (tallyAt (recvCell c μ) () N)) ∗ levAts L lv)

/-- The scratch buffers. -/
abbrev scr (c : Dev nD) : sProp 𝕄 := Pipeline.scopedRest (Ix := Unit) (Name := ℕ) (U := UU) (Lvl := ℕ) (Val := Elt F) cfg0.spec c

/-- Every counter at zero. -/
def zeros (c : Dev nD) : sProp 𝕄 :=
  iprop(semVal (barCell c) 0 ∗ (bigSep Finset.univ fun μ => semVal (sendCell c μ) 0) ∗ bigSep Finset.univ fun μ => semVal (recvCell c μ) 0)

def Φ₀ (c : Dev nD) : sProp 𝕄 := iprop(start m c ∗ scr c)
def Φ₁ (c : Dev nD) : sProp 𝕄 := iprop(zeros (F := F) c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => xB m c
    | ⟨2, _⟩ => outAt (xA m) (xB m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ
    ∗ stg c cc0_stg0_0 (xA m c) ∗ stg c cc0_stg1_0 (xB m c) ∗ stg c cc0_stg2_0 (outAt (xA m) (xB m) c))

section Steps

variable (xa : Dev nD → (cc0_stg0_0 : Ref sig .tc).ty.Contents (Elt F)) (xb : Dev nD → (cc0_stg1_0 : Ref sig .tc).ty.Contents (Elt F))

/-- What is needed of the messages to send, at the start. -/
theorem snd_start (c : Dev nD) :
    iprop((bigSep Finset.univ fun μ => toks (F := F) c μ) ∗ (barPay (F := F) c false ∗ barPay (F := F) c true)
        ∗ (bigSep Finset.univ fun p : Bool × Fin 6 => staged (F := F) c (false, p)) ∗ bigSep Finset.univ fun p : Bool × Fin 6 => staged (F := F) c (true, p))
      ⊢ bigSep Finset.univ fun μ => sendRes xa xb c μ 0 := by
  have h : (bigSep Finset.univ fun μ => sendRes xa xb c μ 0) = iprop((bigSep Finset.univ fun μ => toks (F := F) c μ)
      ∗ (bigSep Finset.univ fun μ : Msg => land (F := F) (dstDev μ.1 c) μ) ∗ bigSep Finset.univ fun μ => staged (F := F) c μ) := by
    rw [← bigSep_sep', ← bigSep_sep']; rfl
  rw [h, bigSep_msg fun μ : Msg => land (F := F) (dstDev μ.1 c) μ, bigSep_msg fun μ => staged (F := F) c μ]
  exact BIBase.Entails.rfl

/-- What is needed of the messages to receive, at the start. -/
theorem rcv_start (c : Dev nD) :
    iprop((bigSep Finset.univ fun μ => cred (tallyAt (recvCell c μ) () N)) ∗ bigSep Finset.univ fun μ => atPos ER (recvCell c μ) 0 ∅ 0)
      ⊢ bigSep Finset.univ fun μ => recvRes xa xb c μ 0 := by
  rw [← bigSep_sep']; exact BIBase.Entails.rfl

/-- What the messages sent leave; -/
theorem snd_end (c : Dev nD) (σ : Sg) (hd : Done σ) :
    (bigSep Finset.univ fun μ => sendRes xa xb c μ (σ.snd μ))
      ⊢ iprop((bigSep Finset.univ fun μ => semVal (sendCell c μ) 0) ∗ bigSep Finset.univ fun μ => sendPay xa xb c μ) := by
  rw [← bigSep_sep']
  exact bigSep_mono fun μ _ => ent (by rw [hd.2.1 μ]; rfl)

/-- what the messages received leave. -/
theorem rcv_end (c : Dev nD) (σ : Sg) (hd : Done σ) :
    (bigSep Finset.univ fun μ => recvRes xa xb c μ (σ.rcv μ))
      ⊢ iprop((bigSep Finset.univ fun μ => semVal (recvCell c μ) 0) ∗ bigSep Finset.univ fun μ => kept xa xb c μ) := by
  rw [← bigSep_sep']
  refine bigSep_mono fun μ _ => ent ?_
  rw [hd.2.2.1 μ]
  unfold kept
  by_cases h : μ.2.1 = true ∧ μ.2.2.val < 4
  · rw [if_pos h, if_pos h]; rfl
  · rw [if_neg h, if_neg h]; rfl

/-- The scratch buffers, from the copy's and what the messages leave. -/
theorem scr_end (c : Dev nD) (y : (cc0_scratch0 : Ref sig .tc).ty.Contents (Elt F)) :
    iprop(bufP c cc0_scratch0 y ∗ (bigSep Finset.univ fun μ => sendPay xa xb c μ) ∗ bigSep Finset.univ fun μ => kept xa xb c μ) ⊢ scr (F := F) c := by
  rw [bigSep_msg fun μ => sendPay xa xb c μ, bigSep_msg fun μ => kept xa xb c μ]
  iintro ⟨Hy, ⟨HsF, HsT⟩, HkF, HkT⟩
  iapply (rest_dirs (F := F) c).2
  isplitl [Hy]; · unfold anyB; iexists y; iexact Hy
  isplitl [HsF HkF]
  · iapply (dir_join (F := F) c false)
    iapply (end_dir xa xb c false)
    isplitl [HsF] <;> iassumption
  · iapply (dir_join (F := F) c true)
    iapply (end_dir xa xb c true)
    isplitl [HsT] <;> iassumption

variable (K : Dev nD × CIx → ℕ)

/-- The body on any operands. -/
theorem wp_body (c : Dev nD) (f : OutC F) (W : Waits sig Unit) (Q : PUnit → sProp 𝕄) :
    iprop(records xa xb K ∗ levAts L lv ∗ linear (F := F) c ∗ cred (tallyAt (barCell c) () 2) ∗ (bigSep Finset.univ fun μ => cred (tallyAt (recvCell c μ) () N))
        ∗ scr (F := F) c ∗ owes (c : Thread nD τ) (O₀ c) W ∗ bufP c cc0_stg0_0 (xa c) ∗ bufP c cc0_stg1_0 (xb c) ∗ bufP c cc0_stg2_0 f
        ∗ ((zeros (F := F) c ∗ scr (F := F) c ∗ (∃ W, owes (c : Thread nD τ) 0 W) ∗ bufP c cc0_stg0_0 (xa c) ∗ bufP c cc0_stg1_0 (xb c) ∗ bufP c cc0_stg2_0 (outAt xa xb c)) -∗ Q ⟨⟩))
      ⊢ wpc c (body0 (F := F)) Q := by
  obtain ⟨σ, hσ, hd⟩ := run_ops
  rw [body_eq, body_ops]
  simp only [Prog.lift, Prog.bind_op, Prog.bind_ret, wp_deviceId]
  unfold linear O₀
  iintro ⟨#HR, #Hlev, ⟨HatB, HtP, HtN, Htok, HatR⟩, HcB, HcR, Hscr, Ho, Ha, Hb, Hf, Hk⟩
  ihave Hscr := (rest_dirs (F := F) c).1 $$ Hscr
  icases Hscr with ⟨Hy, HF, HT⟩
  unfold anyB
  icases Hy with ⟨%y, Hy⟩
  ihave HF := (dir_split (F := F) c false) $$ HF
  ihave HT := (dir_split (F := F) c true) $$ HT
  icases HF with ⟨HsF, HlF⟩
  icases HT with ⟨HsT, HlT⟩
  rw [wp_bind]
  iapply (wp_copy c (xb c) y)
  isplitl [Hb]; · iexact Hb
  isplitl [Hy]; · iexact Hy
  iintro ⟨Hb, Hy⟩
  rw [wp_bind]
  iapply (wp_dot c 0 (xa c) (vCopy (xb c)) f)
  isplitl [Ha]; · iexact Ha
  isplitl [Hy]; · iexact Hy
  isplitl [Hf]; · iexact Hf
  iintro ⟨Ha, Hy, Hf⟩
  rw [wp_bind]
  iapply (wp_barM xa xb K c sendOrder W)
  isplitr; · iexact HR
  isplitr; · iexact Hlev
  isplitl [Ho]; · iexact Ho
  isplitl [HtP]; · iexact HtP
  isplitl [HtN]; · iexact HtN
  isplitl [HlF]; · iexact HlF
  isplitl [HlT]; · iexact HlT
  isplitl [HcB]; · iexact HcB
  isplitl [HatB]; · iexact HatB
  iintro ⟨Ho, HzB, HpF, HpT⟩
  iapply (wp_prog xa xb K c ops Q σ₀ σ hσ)
  isplitr; · iexact HR
  isplitr; · iexact Hlev
  unfold St
  isplitr [Hk HzB]
  · isplitl [Ha]; · iexact Ha
    isplitl [Hb]; · iexact Hb
    isplitl [Hy]; · iexact Hy
    isplitl [Hf]
    · iexists _
      isplitr; · (ipureintro; exact out_dot xa xb c (fun _ => 0) f 0 (fun _ => trivial))
      iexact Hf
    isplitl [Htok HpF HpT HsF HsT]
    · iapply (snd_start xa xb c)
      isplitl [Htok]; · iexact Htok
      isplitl [HpF HpT]
      · isplitl [HpF] <;> iassumption
      isplitl [HsF] <;> iassumption
    isplitl [HcR HatR]
    · iapply (rcv_start xa xb c)
      isplitl [HcR] <;> iassumption
    iexists _; iexact Ho
  iintro ⟨Ha, Hb, Hy, ⟨%g, %hg, Hf⟩, Hsnd, Hrcv, ⟨%W', Ho⟩⟩
  ihave Hsnd := (snd_end xa xb c σ hd) $$ Hsnd
  ihave Hrcv := (rcv_end xa xb c σ hd) $$ Hrcv
  icases Hsnd with ⟨HzS, Hsp⟩
  icases Hrcv with ⟨HzR, Hkp⟩
  ihave Ho := (ent (congrArg (fun x => owes (c : Thread nD τ) (sumL c x) W') hd.2.2.2)) $$ Ho
  have e := out_eq xa xb c σ hd g hg
  subst e
  iapply Hk
  isplitl [HzB HzS HzR]
  · unfold zeros
    isplitl [HzB]; · iexact HzB
    isplitl [HzS] <;> iassumption
  isplitl [Hy Hsp Hkp]
  · iapply (scr_end xa xb c (vCopy (xb c)))
    isplitl [Hy]; · iexact Hy
    isplitl [Hsp] <;> iassumption
  isplitl [Ho]; · iexists W'; iexact Ho
  isplitl [Ha]; · iexact Ha
  isplitl [Hb]; · iexact Hb
  iexact Hf

end Steps

/-- The body from what the launch gives it to what the pipeline expects of it. -/
theorem sound_body (c : Dev nD) : bodyPre m ρ c ⊢ wpc c (body0 (F := F)) (fun _ => bodyPost m ρ c) := by
  unfold bodyPre Φ₀ start
  iintro ⟨⟨⟨⟨%K, #HR, Hlin⟩, HcB, HcR, #Hlev⟩, Hscr⟩, Ho, ⟨%d0, %g0, %hg0, Ha⟩, ⟨%d1, %g1, %hg1, Hb⟩, ⟨%d2, %g2, %hg2, Hf⟩⟩
  have h0 : g0 = xA m c := by rw [hg0]; unfold Dat.before; rw [if_pos (fetch0_0 t0_0)]; rfl
  have h1 : g1 = xB m c := by rw [hg1]; unfold Dat.before; rw [if_pos (fetch0_1 t0_0)]; rfl
  subst h0
  subst h1
  unfold Dat.owesAt Pipeline.owesWithin
  icases Ho with ⟨%W, %hW, Ho⟩
  rw [show (dats m ρ 0 c).owed t0_0.castSucc = O₀ c from rfl]
  iapply (wp_body (xA m) (xB m) K c g2 W)
  isplitr; · iexact HR
  isplitr; · iexact Hlev
  isplitl [Hlin]; · iexact Hlin
  isplitl [HcB]; · iexact HcB
  isplitl [HcR]; · iexact HcR
  isplitl [Hscr]; · iexact Hscr
  isplitl [Ho]; · iexact Ho
  isplitl [Ha]; · iexact Ha
  isplitl [Hb]; · iexact Hb
  isplitl [Hf]; · iexact Hf
  iintro ⟨Hz, Hscr, ⟨%W', Ho⟩, Ha, Hb, Hf⟩
  unfold bodyPost Φ₁ Dat.owesAt Pipeline.owesWithin
  rw [show (dats m ρ 0 c).owed t0_0.succ = 0 from rfl]
  isplitl [Hz Hscr]
  · isplitl [Hz] <;> iassumption
  isplitl [Ho]
  · iexists W'
    isplitr; · ipureintro; exact fun _ _ => Or.inl trivial
    iexact Ho
  isplitl [Ha]
  · iexists _; isplitr; · (ipureintro; rfl)
    iexact Ha
  isplitl [Hb]
  · iexists _; isplitr; · (ipureintro; rfl)
    iexact Hb
  iexists _; isplitr; · (ipureintro; rfl)
  iexact Hf

set_option maxRecDepth 16000 in
/-- The pipeline's obligation of the body on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show bodyPre m ρ c ⊢ wp frame (wpE (defs₀ (F := F)) 𝒱₀ c none) Set.univ (body0 (F := F)) (fun _ => bodyPost m ρ c)
  exact sound_body m ρ c

end Cert.KernelIdeal.Ring

end
-- ==== Proof.KI.Launch.lean ====
/-
# The launch

The launch's resources give every device its own cells, the tokens of the duties it pays at its neighbours and the
credit of what its neighbours owe it; from these each device's body runs, so every run of `main` ends with the result
array at `outAt` and the operands as they were.
-/
module

public import proofs.«01_k».proof.Proof.KI.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## The cells and the tokens -/

/-- The kernel's own semaphores: each message's two. -/
abbrev osem : Msg × Bool → SemLoc sig := fun x => .dma (xSem x)

theorem staging_low : ∀ (w : Fin cfg0.W) s, ((cfg0.spec w).sem s).val < 3 := by decide +kernel

theorem ownSemFacts : Pipeline.OwnSemFacts cfg0.spec osem where
  isScoped := by decide +kernel
  inj x y h := xSem_inj (SemLoc.dma.inj h)
  disj k w s h := by
    have h1 := (unSem_x k).2
    have h2 := staging_low w s
    rw [SemLoc.dma.inj h] at h1
    exact absurd h1 (Nat.not_le.mpr h2)

theorem csem_inj : Function.Injective csem := by
  rintro (a | x) (b | y) h
  · rfl
  · cases h
  · cases h
  · exact congrArg Sum.inr (xSem_inj (SemLoc.dma.inj h))

theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- Every cell of the protocol. -/
def cells : Finset (GSem nD τ sig) := Finset.univ.map ⟨kcell, kcell_inj⟩

/-- Every duty: a barrier cell's two, a message cell's one. -/
abbrev duty (cj : Dev nD × (Bool ⊕ (Msg × Bool))) : GSem nD τ sig × ℕ × Bool := match cj.2 with
  | .inl b => (barCell cj.1, 0, b)
  | .inr x => (xCell cj.1 x, 0, false)

theorem duty_inj : Function.Injective duty := by
  rintro ⟨c, j⟩ ⟨c', j'⟩ h
  have h1 : c = c' := by
    have := congrArg (fun x : GSem nD τ sig × ℕ × Bool => x.1.1.1) h
    rcases j with b | x <;> rcases j' with b' | x' <;> exact this
  subst h1
  have h2 := congrArg (fun x : GSem nD τ sig × ℕ × Bool => (x.1.2, x.2.2)) h
  rcases j with b | x <;> rcases j' with b' | x'
  · rw [show b = b' from congrArg Prod.snd h2]
  · cases congrArg Prod.fst h2
  · cases congrArg Prod.fst h2
  · rw [xSem_inj (SemLoc.dma.inj (congrArg Prod.fst h2))]

/-- The tokens of every duty. -/
def tokens : Finset (GSem nD τ sig × ℕ × Bool) := Finset.univ.map ⟨duty, duty_inj⟩

/-- The launch's element of the resources. -/
def u₀ : UU := (initOf (Pipeline.cells cfgs cellOf_inj) (Pipeline.launchToks cfgs cellOf_inj), initOf cells tokens)

/-- A family over the message cells is one over the send cells and one over the receive cells. -/
theorem bigSep_x (Φ : Msg × Bool → sProp 𝕄) :
    bigSep Finset.univ Φ = iprop((bigSep Finset.univ fun μ => Φ (μ, false)) ∗ bigSep Finset.univ fun μ => Φ (μ, true)) := by
  rw [bigSep_univ_prod, ← bigSep_sep']
  exact bigSep_congr fun μ _ => bigSep_bool _

/-- A family over a device's cells. -/
theorem bigSep_k (Φ : CIx → sProp 𝕄) :
    bigSep Finset.univ Φ = iprop(Φ (.inl ()) ∗ (bigSep Finset.univ fun μ => Φ (.inr (μ, false))) ∗ bigSep Finset.univ fun μ => Φ (.inr (μ, true))) := by
  rw [bigSep_univ_sum, bigSep_univ_of_subsingleton (), bigSep_x]; rfl

/-- The tokens of a device's own cells. -/
def ownToks (c : Dev nD) : sProp 𝕄 :=
  iprop((dutyTok ER (barCell c) 0 false ∗ dutyTok ER (barCell c) 0 true)
    ∗ (bigSep Finset.univ fun μ => dutyTok ER (sendCell c μ) 0 false) ∗ bigSep Finset.univ fun μ => dutyTok ER (recvCell c μ) 0 false)

/-- The tokens of the duties a device pays. -/
def payToks (c : Dev nD) : sProp 𝕄 :=
  iprop((dutyTok ER (barCell (dstDev true c)) 0 false ∗ dutyTok ER (barCell (dstDev false c)) 0 true)
    ∗ (bigSep Finset.univ fun μ => dutyTok ER (sendCell c μ) 0 false) ∗ bigSep Finset.univ fun μ : Msg => dutyTok ER (recvCell (dstDev μ.1 c) μ) 0 false)

/-- A family over the devices, taken around the ring. -/
theorem turned (l : Bool) (Φ : Dev nD → sProp 𝕄) : bigSep Finset.univ Φ = bigSep Finset.univ fun c => Φ (dstDev l c) :=
  bigSep_univ_equiv (turn l) Φ

/-- The tokens go to those who pay. -/
theorem toks_around : (bigSep Finset.univ fun c : Dev nD => ownToks (F := F) c) = bigSep Finset.univ fun c : Dev nD => payToks (F := F) c := by
  unfold ownToks payToks
  simp only [bigSep_sep']
  rw [turned true fun c => dutyTok ER (barCell c) 0 false, turned false fun c => dutyTok ER (barCell c) 0 true,
    bigSep_univ_comm fun (c : Dev nD) (μ : Msg) => (dutyTok ER (recvCell c μ) 0 false : sProp 𝕄),
    bigSep_univ_comm fun (c : Dev nD) (μ : Msg) => (dutyTok ER (recvCell (dstDev μ.1 c) μ) 0 false : sProp 𝕄),
    bigSep_congr fun (μ : Msg) _ => turned μ.1 fun c => (dutyTok ER (recvCell c μ) 0 false : sProp 𝕄)]

section Alloc

variable (xa : Dev nD → (cc0_stg0_0 : Ref sig .tc).ty.Contents (Elt F)) (xb : Dev nD → (cc0_stg1_0 : Ref sig .tc).ty.Contents (Elt F))

/-- What the launch deals a device. -/
def G (c : Dev nD) : sProp 𝕄 :=
  iprop((bigSep Finset.univ fun k : CIx => roundState ER (ringRd xa xb) (kcell (c, k)) 0)
    ∗ (bigSep Finset.univ fun k : CIx => atPos ER (kcell (c, k)) 0 ∅ 0) ∗ (bigSep Finset.univ fun k : CIx => reached ER (kcell (c, k)) 0) ∗ ownToks c)

/-- What a device has of the protocol when its body starts. -/
def G' (c : Dev nD) : sProp 𝕄 := iprop(∃ K, records xa xb K ∗ linear c)

theorem over_cells (Φ : GSem nD τ sig → sProp 𝕄) :
    bigSep cells Φ = bigSep Finset.univ fun c : Dev nD => bigSep Finset.univ fun k : CIx => Φ (kcell (c, k)) := by
  unfold cells; rw [bigSep_map, bigSep_univ_prod]; rfl

theorem over_tokens : bigSep tokens (fun x => (dutyTok ER x.1 x.2.1 x.2.2 : sProp 𝕄)) = bigSep Finset.univ fun c : Dev nD => ownToks (F := F) c := by
  unfold tokens
  rw [bigSep_map, bigSep_univ_prod]
  refine bigSep_congr fun c _ => ?_
  rw [bigSep_univ_sum, bigSep_bool, bigSep_x]
  rfl

/-- The launch's element makes what each device is dealt. -/
theorem deal : BI.own (ER (initOf cells tokens)) ⊢ (|==> bigSep Finset.univ (G xa xb) : sProp 𝕄) := by
  iintro HX
  imod (Rounds.fund ER (ringRd xa xb) cells tokens) $$ HX with ⟨Hst, Hr, Hat, Htok⟩
  imodintro
  ihave Hst := (ent (over_cells fun g => roundState ER (ringRd xa xb) g 0)) $$ Hst
  ihave Hat := (ent (over_cells (F := F) fun g => atPos ER g 0 ∅ 0)) $$ Hat
  ihave Hr := (ent (over_cells (F := F) fun g => reached ER g 0)) $$ Hr
  ihave Htok := (ent over_tokens) $$ Htok
  unfold G; simp only [bigSep_sep']
  isplitl [Hst]; · iexact Hst
  isplitl [Hat]; · iexact Hat
  isplitl [Hr] <;> iassumption

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's counters at zero. -/
theorem zeros_eq (c : Dev nD) :
    zeros (F := F) c = iprop(unscopedSems0 c ∗ Pipeline.ownSems0 (Ix := Unit) (Name := ℕ) (U := UU) (Lvl := ℕ) (Val := Elt F) (τ := τ) osem c) := by
  rw [unscopedSems0_eq]
  unfold zeros Pipeline.ownSems0
  rw [bigSep_x]
  rfl

theorem sems_eq (c : Dev nD) : (bigSep Finset.univ fun k : CIx => (semVal (kcell (c, k)) 0 : sProp 𝕄)) = zeros c := by
  rw [bigSep_k]; rfl

/-- A device's cells become shared invariants. -/
theorem shares (c : Dev nD) :
    iprop((bigSep Finset.univ fun k : CIx => (semVal (kcell (c, k)) 0 : sProp 𝕄)) ∗ bigSep Finset.univ fun k : CIx => roundState ER (ringRd xa xb) (kcell (c, k)) 0)
      ⊢ (|={Set.univ}=> bigSep Finset.univ fun k => iprop(∃ κ : ℕ, cellInv ER (ringRd xa xb) κ (kcell (c, k))) : sProp 𝕄) := by
  rw [← bigSep_sep']
  exact (bigSep_mono fun k _ => (Rounds.body_intro ER (ringRd xa xb) (kcell (c, k))).trans inv_alloc).trans (bigSep_fupd _ _)

theorem alloc (c : Dev nD) :
    iprop(Pipeline.ownSems0 (Ix := Unit) (Name := ℕ) (U := UU) (Lvl := ℕ) (Val := Elt F) (τ := τ) osem c ∗ unscopedSems0 c ∗ G xa xb c)
      ⊢ |={Set.univ}=> iprop((bigSep Finset.univ fun k => iprop(∃ κ : ℕ, cellInv ER (ringRd xa xb) κ (kcell (c, k))))
          ∗ (bigSep Finset.univ fun k : CIx => atPos ER (kcell (c, k)) 0 ∅ 0) ∗ (bigSep Finset.univ fun k : CIx => reached ER (kcell (c, k)) 0) ∗ ownToks c) := by
  have hz := (zeros_eq (F := F) c).symm.trans (sems_eq c).symm
  unfold G
  iintro ⟨Hos, Hus, Hst, Hrest⟩
  ihave Hv := (ent hz) $$ [Hos Hus]
  · isplitl [Hus] <;> iassumption
  imod (shares xa xb c) $$ [Hv Hst] with Hinv
  · isplitl [Hv] <;> iassumption
  imodintro
  isplitl [Hinv] <;> iassumption

/-- A device's positions and the tokens it pays with. -/
theorem linear_intro (c : Dev nD) : iprop((bigSep Finset.univ fun k : CIx => atPos ER (kcell (c, k)) 0 ∅ 0) ∗ payToks (F := F) c) ⊢ linear c := by
  have ht : (bigSep Finset.univ fun μ => toks (F := F) c μ) = iprop((bigSep Finset.univ fun μ => dutyTok ER (sendCell c μ) 0 false)
      ∗ (bigSep Finset.univ fun μ : Msg => dutyTok ER (recvCell (dstDev μ.1 c) μ) 0 false) ∗ bigSep Finset.univ fun μ => atPos ER (sendCell c μ) 0 ∅ 0) := by
    rw [← bigSep_sep', ← bigSep_sep']; rfl
  unfold linear payToks
  rw [bigSep_k, ht]
  iintro ⟨⟨HB, HS, HR⟩, ⟨HtP, HtN⟩, HtS, HtR⟩
  isplitl [HB]; · iexact HB
  isplitl [HtP]; · iexact HtP
  isplitl [HtN]; · iexact HtN
  isplitr [HR]
  · isplitl [HtS]; · iexact HtS
    isplitl [HtR]; · iexact HtR
    iexact HS
  iexact HR

theorem start_one (K : Dev nD × CIx → ℕ) (c : Dev nD) :
    iprop(records xa xb K ∗ ((bigSep Finset.univ fun k : CIx => atPos ER (kcell (c, k)) 0 ∅ 0) ∗ payToks (F := F) c)) ⊢ G' xa xb c := by
  unfold G'
  iintro ⟨HR, H⟩
  iexists K
  isplitl [HR]; · iexact HR
  iapply (linear_intro c); iexact H

/-- What all share goes to each. -/
theorem share_out {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ :=
  (sep_mono_left (BI.bigSep_of_persistent S R)).trans ((ent (bigSep_sep' S (fun _ => R) Φ).symm).trans (bigSep_mono fun i _ => h i))

theorem spread :
    iprop((bigSep Finset.univ fun c : Dev nD => bigSep Finset.univ fun k => iprop(∃ κ : ℕ, cellInv ER (ringRd xa xb) κ (kcell (c, k))))
        ∗ (bigSep Finset.univ fun c : Dev nD => bigSep Finset.univ fun k : CIx => atPos ER (kcell (c, k)) 0 ∅ 0)
        ∗ (bigSep Finset.univ fun c : Dev nD => bigSep Finset.univ fun k : CIx => reached ER (kcell (c, k)) 0) ∗ bigSep Finset.univ fun c : Dev nD => ownToks (F := F) c)
      ⊢ bigSep Finset.univ (G' xa xb) := by
  rw [← bigSep_univ_prod fun ck : Dev nD × CIx => iprop(∃ κ : ℕ, cellInv ER (ringRd xa xb) κ (kcell ck)),
    ← bigSep_univ_prod fun ck : Dev nD × CIx => (reached ER (kcell ck) 0 : sProp 𝕄), toks_around]
  iintro ⟨HI, Hat, #HR, Htok⟩
  ihave HK := (BI.bigSep_exists_pi Finset.univ (fun (ck : Dev nD × CIx) (κ : ℕ) => (cellInv ER (ringRd xa xb) κ (kcell ck) : sProp 𝕄))) $$ HI
  icases HK with ⟨%K, #HI⟩
  iapply (share_out (R := records xa xb K) (start_one xa xb K))
  isplitr
  · unfold records; isplitl; · iexact HI
    iexact HR
  rw [bigSep_sep']
  isplitl [Hat] <;> iassumption

/-- The launch's step over all devices: their counters become cells all share. -/
theorem open_cells : (bigSep Finset.univ fun c => iprop(Pipeline.ownSems0 (Ix := Unit) (Name := ℕ) (U := UU) (Lvl := ℕ) (Val := Elt F) (τ := τ) osem c ∗ unscopedSems0 c ∗ G xa xb c) : sProp 𝕄)
    ⊢ |={Set.univ}=> bigSep Finset.univ (G' xa xb) :=
  ((bigSep_mono fun c _ => alloc xa xb c).trans (bigSep_fupd _ _)).trans
    (BI.fupd_mono ((ent (by rw [bigSep_sep', bigSep_sep', bigSep_sep'])).trans (spread xa xb)))

end Alloc

/-! ## The credit -/

/-- What device `c` is owed for the messages of a list. -/
def sumR (c : Dev nD) : List Msg → CellTallies nD τ sig Unit
  | [] => 0
  | ν :: l => sumR c l + tallyAt (recvCell c ν) () N

/-- All that device `c` is owed. -/
def T₀ (c : Dev nD) : CellTallies nD τ sig Unit := sumR c sendOrder + tallyAt (barCell c) () 1 + tallyAt (barCell c) () 1

theorem sum_turned (l : Bool) (f : Dev nD → CellTallies nD τ sig Unit) : (∑ c, f (dstDev l c)) = ∑ c, f c := Equiv.sum_comp (turn l) f

theorem sum_lists (l : List Msg) : (∑ c, sumL c l) = ∑ c, sumR c l := by
  induction l with
  | nil => rfl
  | cons ν l ih =>
    simp only [sumL, sumR, Finset.sum_add_distrib]
    rw [ih, sum_turned ν.1 fun c => tallyAt (recvCell c ν) () N]

theorem sum_owed : (∑ c, O₀ c) = ∑ c, T₀ c := by
  unfold O₀ T₀
  simp only [Finset.sum_add_distrib]
  rw [sum_lists, sum_turned false fun c => tallyAt (barCell c) () 1, sum_turned true fun c => tallyAt (barCell c) () 1]

theorem tally_here {c : Dev nD} {sm : SemLoc sig} {n : ℕ} {g : GSem nD τ sig} (h : g.1 ≠ (c : Thread nD τ)) :
    (tallyAt ((c : Thread nD τ), sm) () n : CellTallies nD τ sig Unit) g = 0 :=
  Finsupp.ext fun u => by rw [tallyAt_apply, if_neg fun e => h (congrArg Prod.fst e.1)]; rfl

theorem sumR_here (c : Dev nD) (l : List Msg) {g : GSem nD τ sig} (h : g.1 ≠ (c : Thread nD τ)) : sumR c l g = 0 := by
  induction l with
  | nil => rfl
  | cons ν l ih => rw [sumR, Pi.add_apply, ih, tally_here h, add_zero]

theorem T₀_here (c : Dev nD) (g : GSem nD τ sig) (h : T₀ c g ≠ 0) : g.1 = (c.tc : Thread nD τ) := by
  by_contra hg
  refine h ?_
  unfold T₀
  rw [Pi.add_apply, Pi.add_apply, sumR_here c _ hg, tally_here hg, add_zero, add_zero]

theorem cred_list (c : Dev nD) : ∀ l : List Msg, l.Nodup →
    (cred (sumR c l) : sProp 𝕄) ⊢ bigSep l.toFinset fun μ => cred (tallyAt (recvCell c μ) () N)
  | [], _ => by rw [List.toFinset_nil, bigSep_empty, sumR, cred_zero]; exact BIBase.Entails.rfl
  | ν :: l, h => by
    have e' : bigSep (ν :: l).toFinset (fun μ => (cred (tallyAt (recvCell c μ) () N) : sProp 𝕄))
        = iprop(cred (tallyAt (recvCell c ν) () N) ∗ bigSep l.toFinset fun μ => cred (tallyAt (recvCell c μ) () N)) := by
      rw [List.toFinset_cons, bigSep_insert (fun hm => (List.nodup_cons.mp h).1 (List.mem_toFinset.mp hm))]; rfl
    have ih := cred_list c l (List.nodup_cons.mp h).2
    have e := (cred_add (Val := Elt F) (Name := ℕ) (U := UU) (Lvl := ℕ) (sumR c l) (tallyAt (recvCell c ν) () N)).1
    rw [sumR]
    iintro H
    ihave H := e $$ H
    icases H with ⟨H1, H2⟩
    iapply (ent e'.symm)
    isplitl [H2]; · iexact H2
    iapply ih; iexact H1

theorem sendOrder_univ : sendOrder.toFinset = Finset.univ := Finset.eq_univ_iff_forall.mpr fun μ => List.mem_toFinset.mpr (sendOrder_all μ)

/-- The credit a device starts with. -/
theorem creds (c : Dev nD) :
    (Pipeline.launchCred O₀ c : sProp 𝕄) ⊢ iprop(cred (tallyAt (barCell c) () 2) ∗ bigSep Finset.univ fun μ => cred (tallyAt (recvCell c μ) () N)) := by
  rw [Pipeline.launchCred_of_sum O₀ T₀ sum_owed T₀_here c]
  have h := cred_list (F := F) c sendOrder sendOrder_nodup
  rw [sendOrder_univ] at h
  have e : T₀ c = sumR c sendOrder + tallyAt (barCell c) () 2 := by unfold T₀; rw [add_assoc, tallyAt_add]
  rw [e]
  have e := (cred_add (Val := Elt F) (Name := ℕ) (U := UU) (Lvl := ℕ) (sumR c sendOrder) (tallyAt (barCell c) () 2)).1
  iintro H
  ihave H := e $$ H
  icases H with ⟨H1, H2⟩
  isplitl [H2]; · iexact H2
  iapply h; iexact H1

/-! ## The run -/

section Run

variable (m : (ℓ : Loc nD τ sig) → Buf (Elt F) ℓ) (ρ : Dev nD → PrngReg)

theorem share_eq (c : Dev nD) (w : Fin cfg0.W) : (dats m ρ 0 c).share w = fullShare := Dat.share_full _ (fun _ => rfl) w

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xA m) (xB m) c)
      ⊢ |={Set.univ}=> iprop(start m c ∗ emp) := by
  iintro ⟨-, Hlev, Hcr, -, HG⟩
  ihave Hc := (creds (F := F) c) $$ Hcr
  icases Hc with ⟨HB, HN⟩
  imodintro
  unfold start G'
  isplitl
  · isplitl [HG]; · iexact HG
    isplitl [HB]; · iexact HB
    isplitl [HN] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [zeros_eq]
  iintro ⟨⟨HB, HS⟩, Hr⟩
  isplitl [HB]; · iexact HB
  isplitl [HS] <;> iassumption

/-- What a device owes at the start is at level one at least. -/
theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply, tallyAt_apply, tallyAt_apply] at h
  by_cases h1 : g = barCell (dstDev false c) ∧ u = ()
  · rw [h1.1]; exact ⟨Finset.mem_singleton_self _, Nat.one_pos⟩
  by_cases h2 : g = barCell (dstDev true c) ∧ u = ()
  · rw [h2.1]; exact ⟨Finset.mem_singleton_self _, Nat.one_pos⟩
  rw [if_neg h1, if_neg h2, Nat.add_zero] at h
  obtain ⟨ν, -, rfl⟩ := sumL_pos (c := c) (l := sendOrder) h
  refine ⟨Finset.mem_singleton_self _, ?_⟩
  show 0 < levS (.dma (recvSem ν))
  rw [lev_recv]
  exact Nat.lt_trans Nat.one_pos (levM_pos ν)

theorem mayWait_staging (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_pos hg).1)
      (fun p hp => by rw [Finset.mem_singleton.mp hp]; exact Nat.le_of_eq (if_pos hq))
      (fun g u hg => (O₀_pos hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_staging c _ (staging_low w s) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

/-- Every window's array is as the run leaves it. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 32000 in
/-- From any memory with the counters at zero, every run of `main` on the four devices ends, each window's array is as
    computed and every counter is at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xA m) (xB m)) (G' := G' (xA m) (xB m)) (u₀ := u₀)
    (hu₀ := by
      unfold u₀
      iintro Hu
      ihave H := (ownU_pair _ _) $$ Hu
      icases H with ⟨HP, HX⟩
      imod (deal (xA m) (xB m)) $$ HX with HG
      imodintro
      isplitl [HP] <;> iassumption)
    (hglob := open_cells (xA m) (xB m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The left operand is as it was; -/
theorem finalA_a (c : Dev nD) : finalA m ρ c (0 : Fin 3) = (s₀ m ρ).mem (win0_0.arr.view.loc (c : Thread nD τ)) := (dats (F := F) m ρ 0 c).arrAt_in (0 : Fin 3) rfl _
/-- so is the right one. -/
theorem finalA_b (c : Dev nD) : finalA m ρ c (1 : Fin 3) = (s₀ m ρ).mem (win0_1.arr.view.loc (c : Thread nD τ)) := (dats (F := F) m ρ 0 c).arrAt_in (1 : Fin 3) rfl _

end Run

end Cert.KernelIdeal.Ring

end
-- ==== Proof.KI.Value.lean ====
/-
# The value at the ideal values

At the ideal values the rounding is the identity, so a tile that has gone round the ring is the sum of the four
devices' products, and so is every tile that has landed: on every device the output is the sum over the devices of
their products (`outAt_ideal`), which is what the result array ends holding (`finalA_out`).
-/
module

public import proofs.«01_k».proof.Proof.KI.Launch
public import Idealize.ShloMosaic.Lib.ValueIdx
public import Idealize.ShloMosaic.Lib.MatmulPlain
public import Idealize.ShloMosaic.Lib.StackMember
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

section Tiles

/-- A chunk product at an index: the sum over the contracted coordinate. -/
theorem vDot_apply (a : Vec Ideal S512x1024 .bf16) (b : Vec Ideal S1024x2048 .bf16) (j : S512x2048.Idx) :
    vDot (F := Ideal) a b j = ∑ k : Fin 1024, (a (ix2 (j 0) k) * b (ix2 k (j 1)) : EReal) := by
  have e : vDot (F := Ideal) a b = FloatOps.matmul (F := Ideal) (φ₁ := .bf16) (φ₂ := .bf16) (DotDims.plain 512 1024 2048) none a b (constant (F := Ideal) S512x2048 .f32 0x00000000#32) := by
    show k0_pay2 a b = _
    unfold k0_pay2
    simp only [shapeCast_self]
    rfl
  rw [e, eq_ix2 j]
  refine (Ideal.matmul_plain_apply _ _ _ _ _ _).trans ?_
  rw [constant_apply, Ideal.ofBits_zero_f32, zero_add]

theorem vCopy_ideal (x : (cc0_stg1_0 : Ref sig .tc).ty.Contents (Elt Ideal)) : vCopy (F := Ideal) x = x := by
  unfold vCopy k0_pay1
  simp only [shapeCast_self]

/-- A tile rounded into a slot and widened again is the tile. -/
theorem ext_stage (v : Vec Ideal S512x512 .f32) : vExt (F := Ideal) (un (sq (vStage v))) = v := by
  rw [un_sq]
  unfold vExt vStage k0_pay37 k0_pay3
  simp only [shapeCast_self, shapeCast_shapeCast]
  rfl

/-- A tile rounded into a slot and added is the sum. -/
theorem acc_stage (v w : Vec Ideal S512x512 .f32) (x : S512x512.Idx) :
    (vAcc (F := Ideal) v (un (sq (vStage w))) x : EReal) = (v x : EReal) + (w x : EReal) := by
  rw [un_sq]
  unfold vAcc vStage k0_pay10 k0_pay3
  simp only [shapeCast_self, shapeCast_shapeCast]
  rfl

/-- An element of a left operand; -/
def elA (x : (cc0_stg0_0 : Ref sig .tc).ty.Contents (Elt Ideal)) (i : Fin 2048) (k : Fin 1024) : EReal := x (ix2 i k)
/-- of a right one. -/
def elB (y : (cc0_stg1_0 : Ref sig .tc).ty.Contents (Elt Ideal)) (k : Fin 1024) (i : Fin 2048) : EReal := y (ix2 k i)

theorem chunk_rows : ∀ (c : Dev nD) (r : Fin 4), offA c r 0 = offO c r 0 ∧ offA c r 1 = 0 ∧ offO c r 1 = 0 := by decide +kernel

/-- A chunk product of staged operands at an index of the output. -/
theorem dotV_apply (c : Dev nD) (r : Fin 4) (x : (cc0_stg0_0 : Ref sig .tc).ty.Contents (Elt Ideal)) (y : (cc0_stg1_0 : Ref sig .tc).ty.Contents (Elt Ideal)) (j : S512x2048.Idx) :
    (dotV (F := Ideal) c r x y j : EReal) = ∑ k : Fin 1024, elA x ((oR c r).emb j 0) k * elB y k ((oR c r).emb j 1) := by
  obtain ⟨h0, h1, h2⟩ := chunk_rows c r
  unfold dotV
  refine (vDot_apply _ _ j).trans (Finset.sum_congr rfl fun k _ => ?_)
  refine congrArg₂ (fun a b : EReal => a * b) ?_ ?_
  · show x ((aR c r).emb (ix2 (j 0) k)) = x (ix2 ((oR c r).emb j 0) k)
    refine congrArg x (funext fun a => Fin.ext ?_)
    rw [Rect.emb_apply]
    fin_cases a
    · show offA c r 0 + 1 * (j 0 : Nat) = offO c r 0 + 1 * (j 0 : Nat)
      rw [h0]
    · show offA c r 1 + 1 * (k : Nat) = (k : Nat)
      rw [h1]; omega
  · show y (ix2 k (j 1)) = y (ix2 k ((oR c r).emb j 1))
    refine congrArg y (congrArg (ix2 k) (Fin.ext ?_))
    show (j 1 : Nat) = offO c r 1 + 1 * (j 1 : Nat)
    rw [h2]; omega

variable (xa : Dev nD → (cc0_stg0_0 : Ref sig .tc).ty.Contents (Elt Ideal)) (xb : Dev nD → (cc0_stg1_0 : Ref sig .tc).ty.Contents (Elt Ideal))

/-- Device `c`'s own product at an index. -/
def prod (c : Dev nD) (j : S2048x2048.Idx) : EReal := ∑ k : Fin 1024, elA (xa c) (j 0) k * elB (xb c) k (j 1)

/-- A tile of the own product is the product's. -/
theorem own_ideal (c : Dev nD) (t : Tl) (x : S512x512.Idx) : (own xa xb c t x : EReal) = prod xa xb c ((tlR c t).emb x) := by
  rw [emb_chunk]
  unfold own prod part
  rw [vCopy_ideal]
  exact dotV_apply c (chunkOf t) (xa c) (xb c) ((inR t).emb x)

/-- The sum of the products of a device and the `s` devices its partial sum has come through. -/
def psum (l : Bool) : ℕ → Dev nD → S2048x2048.Idx → EReal
  | 0, c, j => prod xa xb c j
  | s + 1, c, j => prod xa xb c j + psum l s (srcDev l c) j

theorem off_rs : ∀ (l : Bool) (u : Fin 2) (s : Fin 3) (c : Dev nD) (a : Fin 2),
    offT (srcDev l c) l u (Fin.ofNat 4 s.val) a = offT c l u (Fin.ofNat 4 (s.val + 1)) a := by decide +kernel
theorem off_ag : ∀ (l : Bool) (u : Fin 2) (k : Fin 4) (c : Dev nD) (a : Fin 2), k ≠ 3 →
    offT ((srcDev l)^[k.val + 1] c) l u 3 a = offT c l u k a := by decide +kernel

/-- Two tiles of one place are one box. -/
theorem emb_same (c c' : Dev nD) (t t' : Tl) (h : ∀ a, offT c t.1 t.2.1 t.2.2 a = offT c' t'.1 t'.2.1 t'.2.2 a) (x : S512x512.Idx) :
    (tlR c t).emb x = (tlR c' t').emb x := by
  refine funext fun a => Fin.ext ?_
  rw [Rect.emb_apply, Rect.emb_apply]
  show offT c t.1 t.2.1 t.2.2 a + 1 * (x a : Nat) = offT c' t'.1 t'.2.1 t'.2.2 a + 1 * (x a : Nat)
  rw [h a]

/-- The partial sum a device has at step `s`. -/
theorem acc_ideal (l : Bool) (u : Fin 2) (x : S512x512.Idx) : ∀ s : ℕ, s < 4 → ∀ c : Dev nD,
    (acc xa xb l u s c x : EReal) = psum xa xb l s c ((tlR c (l, u, Fin.ofNat 4 s)).emb x)
  | 0, _, c => own_ideal xa xb c (l, u, 0) x
  | s + 1, hs, c => by
    have ih := acc_ideal l u x s (by omega) (srcDev l c)
    rw [emb_same (srcDev l c) c (l, u, Fin.ofNat 4 s) (l, u, Fin.ofNat 4 (s + 1)) (off_rs l u ⟨s, by omega⟩ c)] at ih
    refine (acc_stage _ _ x).trans ?_
    exact congrArg₂ (fun a b : EReal => a + b) (own_ideal xa xb c (l, u, Fin.ofNat 4 (s + 1)) x) ih

/-- The sum over the devices. -/
def total (j : S2048x2048.Idx) : EReal := ∑ d : Dev nD, prod xa xb d j

/-- Three steps go through all the devices. -/
theorem partial_total (l : Bool) (c : Dev nD) (j : S2048x2048.Idx) : psum xa xb l 3 c j = total xa xb j := by
  show prod xa xb c j + (prod xa xb (srcDev l c) j + (prod xa xb (srcDev l (srcDev l c)) j + prod xa xb (srcDev l (srcDev l (srcDev l c))) j)) = ∑ d : Fin 4, prod xa xb d j
  rw [Fin.sum_univ_four]
  generalize prod xa xb = f
  have h : ∀ (g : Fin 4 → EReal), g c + (g (srcDev l c) + (g (srcDev l (srcDev l c)) + g (srcDev l (srcDev l (srcDev l c))))) = g 0 + g 1 + g 2 + g 3 := by
    intro g
    fin_cases c <;> cases l
    · show g 0 + (g 3 + (g 2 + g 1)) = _; ac_rfl
    · show g 0 + (g 1 + (g 2 + g 3)) = _; ac_rfl
    · show g 1 + (g 0 + (g 3 + g 2)) = _; ac_rfl
    · show g 1 + (g 2 + (g 3 + g 0)) = _; ac_rfl
    · show g 2 + (g 1 + (g 0 + g 3)) = _; ac_rfl
    · show g 2 + (g 3 + (g 0 + g 1)) = _; ac_rfl
    · show g 3 + (g 2 + (g 1 + g 0)) = _; ac_rfl
    · show g 3 + (g 0 + (g 1 + g 2)) = _; ac_rfl
  exact h fun d => f d j

theorem acc_total (l : Bool) (u : Fin 2) (c : Dev nD) (x : S512x512.Idx) :
    (acc xa xb l u 3 c x : EReal) = total xa xb ((tlR c (l, u, 3)).emb x) :=
  (acc_ideal xa xb l u x 3 (by decide) c).trans (partial_total xa xb l c _)

/-- What the all-gather passes on is the tile completed as many devices back. -/
theorem agVal_eq (l : Bool) (u : Fin 2) : ∀ (k : ℕ) (c : Dev nD), agVal xa xb l u k c = sq (vStage (acc xa xb l u 3 ((srcDev l)^[k] c)))
  | 0, _ => rfl
  | k + 1, c => agVal_eq l u k (srcDev l c)

/-- A tile at the end is the total's. -/
theorem finT_ideal (c : Dev nD) (t : Tl) (x : S512x512.Idx) : (finT xa xb c t x : EReal) = total xa xb ((tlR c t).emb x) := by
  obtain ⟨l, u, k⟩ := t
  unfold finT
  by_cases hk : k = 3
  · rw [if_pos hk, hk]
    exact acc_total xa xb l u c x
  · rw [if_neg hk]
    dsimp only
    rw [agVal_eq, ext_stage]
    refine (acc_total xa xb l u _ x).trans (congrArg (total xa xb) ?_)
    exact emb_same _ c (l, u, 3) (l, u, k) (fun a => off_ag l u k c a hk) x

/-- The output is the total, on every device. -/
theorem outAt_ideal (c : Dev nD) (j : S2048x2048.Idx) : (outAt xa xb c j : EReal) = total xa xb j := by
  obtain ⟨p, rfl⟩ := cover c j
  rw [outAt_tile]
  exact finT_ideal xa xb c p.1 p.2

end Tiles

section Arrays

variable (m : (ℓ : Loc nD τ sig) → Buf (Elt F) ℓ) (ρ : Dev nD → PrngReg)

/-- A device stages its left operand whole; -/
theorem xA_eq (c : Dev nD) : xA m c = m ((c : Thread nD τ).loc main_arg0) :=
  Memref.read_access_unit_zero (Elt F) main_arg0 (off := fun a => win0_0.index (0 : Fin 1) a * main_arg0.ty.shape.size a)
    (funext fun a => Nat.zero_mul _) (fun a => by fin_cases a <;> decide) _
/-- its right one too. -/
theorem xB_eq (c : Dev nD) : xB m c = m ((c : Thread nD τ).loc main_arg1) :=
  Memref.read_access_unit_zero (Elt F) main_arg1 (off := fun a => win0_1.index (0 : Fin 1) a * main_arg1.ty.shape.size a)
    (funext fun a => Nat.zero_mul _) (fun a => by fin_cases a <;> decide) _

/-- The result array's one block is what the body left. -/
theorem finalA_out (c : Dev nD) : finalA m ρ c (2 : Fin 3) = outAt (xA m) (xB m) c := by
  have h : (win0_2.blk (0 : Fin 1)).view.read (Elt F) (finalA m ρ c (2 : Fin 3)) = outAt (xA m) (xB m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hr := fun f => Memref.read_access_unit_zero (Elt F) main_v1 (off := fun a => win0_2.index (0 : Fin 1) a * main_v1.ty.shape.size a)
    (funext fun a => Nat.zero_mul _) (fun a => by fin_cases a <;> decide) f
  exact (hr _).symm.trans h

end Arrays

end Cert.KernelIdeal.Ring

end
-- ==== Proof.KI.Whole.lean ====
/-
# The sum over the devices is the whole product

A device's operands are its columns of the whole left operand and its rows of the whole right one, so the sum over
the devices of the sums over their own contracted coordinates is the sum over all contracted coordinates.
-/
module

public import proofs.«01_k».proof.Proof.KI.Value
public import Idealize.ShloMosaic.Lib.Layout

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-- The whole left operand; -/
abbrev WholeA := FVec Ideal (⟨2, ![2048, 4096]⟩ : Shape) .bf16
/-- the whole right one. -/
abbrev WholeB := FVec Ideal (⟨2, ![4096, 2048]⟩ : Shape) .bf16

/-- The place of a device's contracted coordinate among all. -/
def place : Dev nD × Fin 1024 ≃ Fin 4096 := finProdFinEquiv (m := 4) (n := 1024)

theorem place_val (c : Dev nD) (k : Fin 1024) : (place (c, k)).val = c.val * 1024 + k.val := by
  show k.val + 1024 * c.val = _
  omega

/-- The sum over the devices of the products of their blocks is the product of the whole operands. -/
theorem total_whole (A : WholeA) (B : WholeB)
    (xa : Dev nD → (cc0_stg0_0 : Ref sig .tc).ty.Contents (Elt Ideal)) (xb : Dev nD → (cc0_stg1_0 : Ref sig .tc).ty.Contents (Elt Ideal))
    (ha : ∀ c, xa c = Layout.block ⟨2, ![2048, 1024]⟩ ⟨2, ![2048, 4096]⟩ 1 4 c A)
    (hb : ∀ c, xb c = Layout.block ⟨2, ![1024, 2048]⟩ ⟨2, ![4096, 2048]⟩ 0 4 c B) (j : S2048x2048.Idx) :
    total xa xb j = (Host.dotGeneral (DotDims.plain 2048 4096 2048) none A B j : EReal) := by
  have e : (Host.dotGeneral (DotDims.plain 2048 4096 2048) none A B j : EReal) = ∑ k : Fin 4096, (A (ix2 (j 0) k) * B (ix2 k (j 1)) : EReal) :=
    (congrArg (Host.dotGeneral (DotDims.plain 2048 4096 2048) none A B) (eq_ix2 j)).trans (StackMember.dotGeneral_plain_apply none A B (j 0) (j 1))
  rw [e, ← Equiv.sum_comp place, Fintype.sum_prod_type]
  refine Finset.sum_congr rfl fun c _ => Finset.sum_congr rfl fun k _ => congrArg₂ (fun a b : EReal => a * b) ?_ ?_
  · unfold elA
    rw [ha c]
    refine congrArg A (funext fun a => Fin.ext ?_)
    fin_cases a
    · rfl
    · exact (place_val c k).symm
  · unfold elB
    rw [hb c]
    refine congrArg B (funext fun a => Fin.ext ?_)
    fin_cases a
    · exact (place_val c k).symm
    · rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.K.Launch
public import proofs.«01_k».proof.Proof.KI.Whole
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel at the bits runs, its arguments end as they were and every counter ends at zero. -/
theorem frame_k : Cert.quiescent_Kernel := fun m ρ _ =>
  (θ_run Cert.Kernel.defs _ _).mono (fun _ h => ⟨fun c => ⟨(h.1 c (0 : Fin 3)).trans (Cert.Kernel.Ring.finalA_a m ρ c),
    (h.1 c (1 : Fin 3)).trans (Cert.Kernel.Ring.finalA_b m ρ c)⟩, h.2⟩) (Cert.Kernel.Ring.run_main (F := Bits) m ρ)

/-- The same of the kernel at the ideal values. -/
theorem frame_ki : Cert.quiescent_KernelIdeal := fun m ρ _ =>
  (θ_run Cert.KernelIdeal.defs _ _).mono (fun _ h => ⟨fun c => ⟨(h.1 c (0 : Fin 3)).trans (Cert.KernelIdeal.Ring.finalA_a m ρ c),
    (h.1 c (1 : Fin 3)).trans (Cert.KernelIdeal.Ring.finalA_b m ρ c)⟩, h.2⟩) (Cert.KernelIdeal.Ring.run_main (F := Ideal) m ρ)

/-- The same of the reference, which has no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values, on the devices' blocks of the operands, every device's result is the reference's. -/
theorem equation : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c (2 : Fin 3)).trans ?_,
    (h.1 c (0 : Fin 3)).trans (Cert.KernelIdeal.Ring.finalA_a m ρ c), (h.1 c (1 : Fin 3)).trans (Cert.KernelIdeal.Ring.finalA_b m ρ c)⟩)
    (Cert.KernelIdeal.Ring.run_main (F := Ideal) m ρ)
  rw [Cert.KernelIdeal.Ring.finalA_out]
  funext j
  refine (Cert.KernelIdeal.Ring.outAt_ideal _ _ c j).trans ?_
  exact Cert.KernelIdeal.Ring.total_whole _ _ _ _
    (fun d => (Cert.KernelIdeal.Ring.xA_eq m d).trans (hagree d).1) (fun d => (Cert.KernelIdeal.Ring.xB_eq m d).trans (hagree d).2) j

/-- Everything claimed. -/
theorem claim : Cert.Claim := ⟨Cert.Kernel.Gen.facts, Cert.KernelIdeal.Gen.facts, Cert.ReferenceIdeal.Gen.facts,
  frame_k, frame_ki, frame_r, trivial, equation⟩

end Cert.Proof

end
